-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_crucial" .f32 0x3B8E7835#32 ((1 / 230 : ℝ) : EReal)
  ∧ IdealRules.named_const.Statement Cert.KernelIdeal.κ "inv_subcrucial" .f32 0x3BD4C77B#32 ((1 / 154 : ℝ) : EReal)

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v245) = v0 c
          ∧ r.2.mem ((c.tc : Thread Cert.ReferenceIdeal.nD Cert.ReferenceIdeal.τ).loc Cert.ReferenceIdeal.main_v246) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S16x384x4096 : Shape := ⟨3, ![16, 384, 4096]⟩
abbrev S16x384x1 : Shape := ⟨3, ![16, 384, 1]⟩
abbrev S1x2x7 : Shape := ⟨3, ![1, 2, 7]⟩
abbrev S1 : Shape := ⟨1, ![1]⟩
abbrev S_ : Shape := ⟨0, ![]⟩

class Facts : Prop where
  bcast_S_S16x384x4096 : S_.BroadcastsInDim S16x384x4096 (![] : Fin 0 → Fin S16x384x4096.rank)

variable [Facts]

def fn {F : FTy → Type} [FloatOps F] (main_arg0 : FVec F S16x384x4096 .f32) (main_arg1 : FVec F S16x384x1 .f32) (main_arg2 : FVec F S1x2x7 .f32) (main_arg3 : FVec F S1 .f32) (main_arg4 : FVec F S1 .f32) : IVec S16x384x4096 1 :=
  let main_v0 : FVec F S16x384x4096 .f32 := Host.absf main_arg0
  let main_cst : FVec F S_ .f32 := constant S_ .f32 0x7F800000#32
  let main_v1 : FVec F S16x384x4096 .f32 := broadcastInDim S16x384x4096 ![] bcast_S_S16x384x4096 main_cst
  let main_v2 : IVec S16x384x4096 1 := cmpf .olt main_v0 main_v1
  main_v2
-- ==== Kernel.lean ====
abbrev S16x384x4096 : Shape := ⟨3, ![16, 384, 4096]⟩
abbrev S16x384x1 : Shape := ⟨3, ![16, 384, 1]⟩
abbrev S1x2x7 : Shape := ⟨3, ![1, 2, 7]⟩
abbrev S1 : Shape := ⟨1, ![1]⟩
abbrev S16x1x384 : Shape := ⟨3, ![16, 1, 384]⟩
abbrev S2x7 : Shape := ⟨2, ![2, 7]⟩
abbrev S1x1 : Shape := ⟨2, ![1, 1]⟩
abbrev S16x2x4096 : Shape := ⟨3, ![16, 2, 4096]⟩
abbrev S1x1x384 : Shape := ⟨3, ![1, 1, 384]⟩
abbrev S1x384x1 : Shape := ⟨3, ![1, 384, 1]⟩
abbrev S1x384x4096 : Shape := ⟨3, ![1, 384, 4096]⟩
abbrev S16x4x4096 : Shape := ⟨3, ![16, 4, 4096]⟩
abbrev S1x384 : Shape := ⟨2, ![1, 384]⟩
abbrev S384x1 : Shape := ⟨2, ![384, 1]⟩
abbrev S384x384 : Shape := ⟨2, ![384, 384]⟩
abbrev S384 : Shape := ⟨1, ![384]⟩
abbrev S384x4096 : Shape := ⟨2, ![384, 4096]⟩
abbrev S2x384 : Shape := ⟨2, ![2, 384]⟩
abbrev S2x4096 : Shape := ⟨2, ![2, 4096]⟩
abbrev S1x4096 : Shape := ⟨2, ![1, 4096]⟩
abbrev S4096 : Shape := ⟨1, ![4096]⟩
abbrev S4x4096 : Shape := ⟨2, ![4, 4096]⟩
abbrev S1x4x4096 : Shape := ⟨3, ![1, 4, 4096]⟩
abbrev S16x3 : Shape := ⟨2, ![16, 3]⟩
abbrev S16x1x4096 : Shape := ⟨3, ![16, 1, 4096]⟩
abbrev S16x4096 : Shape := ⟨2, ![16, 4096]⟩
abbrev S16x4102 : Shape := ⟨2, ![16, 4102]⟩
abbrev S1x16x4096 : Shape := ⟨3, ![1, 16, 4096]⟩
abbrev S1x1x1 : Shape := ⟨3, ![1, 1, 1]⟩
abbrev S1x2x4096 : Shape := ⟨3, ![1, 2, 4096]⟩

abbrev nBuf : Space → Nat
  | .hbm => 13
  | .vmem => 23
  | .smem => 0
  | _ => 0

abbrev bufTy : (tb : Table) → Fin (tcTables nBuf tb) → BufTy
  | .hbm, ⟨0, _⟩ => ⟨S16x384x4096, .f32⟩
  | .hbm, ⟨1, _⟩ => ⟨S16x384x1, .f32⟩
  | .hbm, ⟨2, _⟩ => ⟨S1x2x7, .f32⟩
  | .hbm, ⟨3, _⟩ => ⟨S1, .f32⟩
  | .hbm, ⟨4, _⟩ => ⟨S1, .f32⟩
  | .hbm, ⟨5, _⟩ => ⟨S16x1x384, .f32⟩
  | .hbm, ⟨6, _⟩ => ⟨S2x7, .f32⟩
  | .hbm, ⟨7, _⟩ => ⟨S1x1, .f32⟩
  | .hbm, ⟨8, _⟩ => ⟨S1x1, .f32⟩
  | .hbm, ⟨9, _⟩ => ⟨S16x2x4096, .f32⟩
  | .hbm, ⟨10, _⟩ => ⟨S16x384x1, .f32⟩
  | .hbm, ⟨11, _⟩ => ⟨S16x384x4096, .bf16⟩
  | .hbm, ⟨12, _⟩ => ⟨S16x384x4096, .f32⟩
  | .local _ .vmem, ⟨0, _⟩ => ⟨S1x1x384, .f32⟩
  | .local _ .vmem, ⟨1, _⟩ => ⟨S1x1x384, .f32⟩
  | .local _ .vmem, ⟨2, _⟩ => ⟨S1x384x1, .f32⟩
  | .local _ .vmem, ⟨3, _⟩ => ⟨S1x384x1, .f32⟩
  | .local _ .vmem, ⟨4, _⟩ => ⟨S1x384x4096, .f32⟩
  | .local _ .vmem, ⟨5, _⟩ => ⟨S1x384x4096, .f32⟩
  | .local _ .vmem, ⟨6, _⟩ => ⟨S2x7, .f32⟩
  | .local _ .vmem, ⟨7, _⟩ => ⟨S1x1, .f32⟩
  | .local _ .vmem, ⟨8, _⟩ => ⟨S1x1, .f32⟩
  | .local _ .vmem, ⟨9, _⟩ => ⟨S16x2x4096, .f32⟩
  | .local _ .vmem, ⟨10, _⟩ => ⟨S1x384x1, .f32⟩
  | .local _ .vmem, ⟨11, _⟩ => ⟨S1x384x1, .f32⟩
  | .local _ .vmem, ⟨12, _⟩ => ⟨S1x384x4096, .bf16⟩
  | .local _ .vmem, ⟨13, _⟩ => ⟨S1x384x4096, .bf16⟩
  | .local _ .vmem, ⟨14, _⟩ => ⟨S16x4x4096, .f32⟩
  | .local _ .vmem, ⟨15, _⟩ => ⟨S1x384x4096, .bf16⟩
  | .local _ .vmem, ⟨16, _⟩ => ⟨S1x384x4096, .bf16⟩
  | .local _ .vmem, ⟨17, _⟩ => ⟨S1x384x1, .f32⟩
  | .local _ .vmem, ⟨18, _⟩ => ⟨S1x384x1, .f32⟩
  | .local _ .vmem, ⟨19, _⟩ => ⟨S1x2x4096, .f32⟩
  | .local _ .vmem, ⟨20, _⟩ => ⟨S1x2x4096, .f32⟩
  | .local _ .vmem, ⟨21, _⟩ => ⟨S1x384x4096, .f32⟩
  | .local _ .vmem, ⟨22, _⟩ => ⟨S1x384x4096, .f32⟩
  | _, _ => ⟨S16x384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let v62 : Index := Scalar.indexCast arg0
  let c0_25 : Index := 0#32
  let c0_26 : Index := 0#32
  ![v62.toNat, 0, 0]
def k0_cond1 (i : grid0.Coords) : BitVec 1 :=
  let arg0 : BitVec 32 := BitVec.ofNat 32 (i 0).val
  let c15_i32 : BitVec 32 := 15#32
  let v66 : BitVec 1 := Scalar.cmpi .eq arg0 c15_i32
  let v67 : BitVec 32 := Scalar.extui v66
  let c0_i32 : BitVec 32 := 0#32
  let v68 : BitVec 1 := Scalar.cmpi .ne v67 c0_i32
  v68

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x384x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x2x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x384x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x384x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x384x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x384x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x384x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
variable {F : FTy → Type} [FloatOps F] [Named F]
def κ : String → Option EReal := fun
  | "inv_crucial" => some ((1 / 230 : ℝ) : EReal)
  | "inv_subcrucial" => some ((1 / 154 : ℝ) : EReal)
  | _ => none
-- ==== ReferenceIdeal.lean ====
abbrev S16x384x4096 : Shape := ⟨3, ![16, 384, 4096]⟩
abbrev S16x384x1 : Shape := ⟨3, ![16, 384, 1]⟩
abbrev S1x2x7 : Shape := ⟨3, ![1, 2, 7]⟩
abbrev S1 : Shape := ⟨1, ![1]⟩
abbrev S16x384 : Shape := ⟨2, ![16, 384]⟩
abbrev S16x230 : Shape := ⟨2, ![16, 230]⟩
abbrev S16 : Shape := ⟨1, ![16]⟩
abbrev S16x1 : Shape := ⟨2, ![16, 1]⟩
abbrev S_ : Shape := ⟨0, ![]⟩
abbrev S16x230x1 : Shape := ⟨3, ![16, 230, 1]⟩
abbrev S16x230x2 : Shape := ⟨3, ![16, 230, 2]⟩
abbrev S16x4096 : Shape := ⟨2, ![16, 4096]⟩
abbrev S16x1x4096 : Shape := ⟨3, ![16, 1, 4096]⟩
abbrev S16x2x4096 : Shape := ⟨3, ![16, 2, 4096]⟩
abbrev S16x2x4102 : Shape := ⟨3, ![16, 2, 4102]⟩
abbrev S1x2x1 : Shape := ⟨3, ![1, 2, 1]⟩
abbrev S1x2 : Shape := ⟨2, ![1, 2]⟩
abbrev S1x1x1 : Shape := ⟨3, ![1, 1, 1]⟩

abbrev nBuf : Space → Nat
  | .hbm => 348
  | .vmem => 0
  | .smem => 0
  | _ => 0

abbrev hbmTy0_0 (i : Nat) : BufTy := match i % 128 with
  | 0 => ⟨S16x384x4096, .f32⟩
  | 1 => ⟨S16x384x1, .f32⟩
  | 2 => ⟨S1x2x7, .f32⟩
  | 3 => ⟨S1, .f32⟩
  | 4 => ⟨S1, .f32⟩
  | 5 => ⟨S16x384, .f32⟩
  | 6 => ⟨S16x230, .f32⟩
  | 7 => ⟨S16x230, .i32⟩
  | 8 => ⟨S16, .i32⟩
  | 9 => ⟨S16x1, .i32⟩
  | 10 => ⟨S_, .f32⟩
  | 11 => ⟨S16x384, .f32⟩
  | 12 => ⟨S_, .i32⟩
  | 13 => ⟨S16x1, .i32⟩
  | 14 => ⟨S16x1, .i1⟩
  | 15 => ⟨S_, .i32⟩
  | 16 => ⟨S16x1, .i32⟩
  | 17 => ⟨S16x1, .i32⟩
  | 18 => ⟨S16x1, .i32⟩
  | 19 => ⟨S_, .i32⟩
  | 20 => ⟨S16x230, .i32⟩
  | 21 => ⟨S16x230, .i1⟩
  | 22 => ⟨S_, .i32⟩
  | 23 => ⟨S16x230, .i32⟩
  | 24 => ⟨S16x230, .i32⟩
  | 25 => ⟨S16x230, .i32⟩
  | 26 => ⟨S16x230, .i32⟩
  | 27 => ⟨S16x230x1, .i32⟩
  | 28 => ⟨S16x230x1, .i32⟩
  | 29 => ⟨S16x230x2, .i32⟩
  | 30 => ⟨S_, .f32⟩
  | 31 => ⟨S16x230, .f32⟩
  | 32 => ⟨S16x384, .f32⟩
  | 33 => ⟨S_, .f32⟩
  | 34 => ⟨S16x384, .f32⟩
  | 35 => ⟨S_, .i32⟩
  | 36 => ⟨S16x1, .i32⟩
  | 37 => ⟨S16x1, .i1⟩
  | 38 => ⟨S_, .i32⟩
  | 39 => ⟨S16x1, .i32⟩
  | 40 => ⟨S16x1, .i32⟩
  | 41 => ⟨S16x1, .i32⟩
  | 42 => ⟨S_, .i32⟩
  | 43 => ⟨S16x230, .i32⟩
  | 44 => ⟨S16x230, .i1⟩
  | 45 => ⟨S_, .i32⟩
  | 46 => ⟨S16x230, .i32⟩
  | 47 => ⟨S16x230, .i32⟩
  | 48 => ⟨S16x230, .i32⟩
  | 49 => ⟨S16x230, .i32⟩
  | 50 => ⟨S16x230x1, .i32⟩
  | 51 => ⟨S16x230x1, .i32⟩
  | 52 => ⟨S16x230x2, .i32⟩
  | 53 => ⟨S_, .f32⟩
  | 54 => ⟨S16x230, .f32⟩
  | 55 => ⟨S16x384, .f32⟩
  | 56 => ⟨S16x384x1, .f32⟩
  | 57 => ⟨S16x384x4096, .f32⟩
  | 58 => ⟨S16x384x4096, .f32⟩
  | 59 => ⟨S16x384x1, .f32⟩
  | 60 => ⟨S16x384x4096, .f32⟩
  | 61 => ⟨S16x384x4096, .f32⟩
  | 62 => ⟨S_, .f32⟩
  | 63 => ⟨S16x4096, .f32⟩
  | 64 => ⟨S16x1x4096, .f32⟩
  | 65 => ⟨S_, .f32⟩
  | 66 => ⟨S16x4096, .f32⟩
  | 67 => ⟨S16x1x4096, .f32⟩
  | 68 => ⟨S_, .f32⟩
  | 69 => ⟨S16x1x4096, .f32⟩
  | 70 => ⟨S16x1x4096, .f32⟩
  | 71 => ⟨S_, .f32⟩
  | 72 => ⟨S16x1x4096, .f32⟩
  | 73 => ⟨S16x1x4096, .f32⟩
  | 74 => ⟨S_, .f32⟩
  | 75 => ⟨S16x1x4096, .f32⟩
  | 76 => ⟨S16x1x4096, .f32⟩
  | 77 => ⟨S_, .f32⟩
  | 78 => ⟨S16x4096, .f32⟩
  | 79 => ⟨S16x1x4096, .f32⟩
  | 80 => ⟨S_, .f32⟩
  | 81 => ⟨S16x4096, .f32⟩
  | 82 => ⟨S16x1x4096, .f32⟩
  | 83 => ⟨S_, .f32⟩
  | 84 => ⟨S16x1x4096, .f32⟩
  | 85 => ⟨S16x1x4096, .f32⟩
  | 86 => ⟨S_, .f32⟩
  | 87 => ⟨S16x1x4096, .f32⟩
  | 88 => ⟨S16x1x4096, .f32⟩
  | 89 => ⟨S_, .f32⟩
  | 90 => ⟨S16x1x4096, .f32⟩
  | 91 => ⟨S16x1x4096, .f32⟩
  | 92 => ⟨S16x2x4096, .f32⟩
  | 93 => ⟨S16x2x4096, .f32⟩
  | 94 => ⟨S_, .i32⟩
  | 95 => ⟨S_, .f32⟩
  | 96 => ⟨S16x2x4102, .f32⟩
  | 97 => ⟨S_, .f32⟩
  | 98 => ⟨S16x1x4096, .f32⟩
  | 99 => ⟨S1x2x1, .f32⟩
  | 100 => ⟨S1x2, .f32⟩
  | 101 => ⟨S1x2x1, .f32⟩
  | 102 => ⟨S16x2x4096, .f32⟩
  | 103 => ⟨S16x2x4096, .f32⟩
  | 104 => ⟨S16x2x4096, .f32⟩
  | 105 => ⟨S_, .f32⟩
  | 106 => ⟨S16x4096, .f32⟩
  | 107 => ⟨S16x1x4096, .f32⟩
  | 108 => ⟨S16x1x4096, .f32⟩
  | 109 => ⟨S1x2x1, .f32⟩
  | 110 => ⟨S1x2, .f32⟩
  | 111 => ⟨S1x2x1, .f32⟩
  | 112 => ⟨S16x2x4096, .f32⟩
  | 113 => ⟨S16x2x4096, .f32⟩
  | 114 => ⟨S16x2x4096, .f32⟩
  | 115 => ⟨S_, .f32⟩
  | 116 => ⟨S16x4096, .f32⟩
  | 117 => ⟨S16x1x4096, .f32⟩
  | 118 => ⟨S16x1x4096, .f32⟩
  | 119 => ⟨S1x2x1, .f32⟩
  | 120 => ⟨S1x2, .f32⟩
  | 121 => ⟨S1x2x1, .f32⟩
  | 122 => ⟨S16x2x4096, .f32⟩
  | 123 => ⟨S16x2x4096, .f32⟩
  | 124 => ⟨S16x2x4096, .f32⟩
  | 125 => ⟨S_, .f32⟩
  | 126 => ⟨S16x4096, .f32⟩
  | 127 => ⟨S16x1x4096, .f32⟩
  | _ => ⟨S16x384x4096, .f32⟩

abbrev hbmTy0_1 (i : Nat) : BufTy := match i % 128 with
  | 0 => ⟨S16x1x4096, .f32⟩
  | 1 => ⟨S1x2x1, .f32⟩
  | 2 => ⟨S1x2, .f32⟩
  | 3 => ⟨S1x2x1, .f32⟩
  | 4 => ⟨S16x2x4096, .f32⟩
  | 5 => ⟨S16x2x4096, .f32⟩
  | 6 => ⟨S16x2x4096, .f32⟩
  | 7 => ⟨S_, .f32⟩
  | 8 => ⟨S16x4096, .f32⟩
  | 9 => ⟨S16x1x4096, .f32⟩
  | 10 => ⟨S16x1x4096, .f32⟩
  | 11 => ⟨S1x2x1, .f32⟩
  | 12 => ⟨S1x2, .f32⟩
  | 13 => ⟨S1x2x1, .f32⟩
  | 14 => ⟨S16x2x4096, .f32⟩
  | 15 => ⟨S16x2x4096, .f32⟩
  | 16 => ⟨S16x2x4096, .f32⟩
  | 17 => ⟨S_, .f32⟩
  | 18 => ⟨S16x4096, .f32⟩
  | 19 => ⟨S16x1x4096, .f32⟩
  | 20 => ⟨S16x1x4096, .f32⟩
  | 21 => ⟨S1x2x1, .f32⟩
  | 22 => ⟨S1x2, .f32⟩
  | 23 => ⟨S1x2x1, .f32⟩
  | 24 => ⟨S16x2x4096, .f32⟩
  | 25 => ⟨S16x2x4096, .f32⟩
  | 26 => ⟨S16x2x4096, .f32⟩
  | 27 => ⟨S_, .f32⟩
  | 28 => ⟨S16x4096, .f32⟩
  | 29 => ⟨S16x1x4096, .f32⟩
  | 30 => ⟨S16x1x4096, .f32⟩
  | 31 => ⟨S1x2x1, .f32⟩
  | 32 => ⟨S1x2, .f32⟩
  | 33 => ⟨S1x2x1, .f32⟩
  | 34 => ⟨S16x2x4096, .f32⟩
  | 35 => ⟨S16x2x4096, .f32⟩
  | 36 => ⟨S16x2x4096, .f32⟩
  | 37 => ⟨S_, .f32⟩
  | 38 => ⟨S16x4096, .f32⟩
  | 39 => ⟨S16x1x4096, .f32⟩
  | 40 => ⟨S16x1x4096, .f32⟩
  | 41 => ⟨S_, .f32⟩
  | 42 => ⟨S_, .f32⟩
  | 43 => ⟨S_, .f32⟩
  | 44 => ⟨S_, .f32⟩
  | 45 => ⟨S_, .i32⟩
  | 46 => ⟨S_, .f32⟩
  | 47 => ⟨S_, .f32⟩
  | 48 => ⟨S1x1x1, .f32⟩
  | 49 => ⟨S_, .f32⟩
  | 50 => ⟨S1x1x1, .f32⟩
  | 51 => ⟨S1x1x1, .f32⟩
  | 52 => ⟨S16x1x4096, .f32⟩
  | 53 => ⟨S16x1x4096, .f32⟩
  | 54 => ⟨S16x1x4096, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .i1⟩
  | 63 => ⟨S_, .f32⟩
  | 64 => ⟨S_, .f32⟩
  | 65 => ⟨S_, .f32⟩
  | 66 => ⟨S16x1x4096, .f32⟩
  | 67 => ⟨S16x1x4096, .f32⟩
  | 68 => ⟨S_, .f32⟩
  | 69 => ⟨S_, .f32⟩
  | 70 => ⟨S_, .f32⟩
  | 71 => ⟨S16x1x4096, .f32⟩
  | 72 => ⟨S16x1x4096, .f32⟩
  | 73 => ⟨S_, .f32⟩
  | 74 => ⟨S16x1x4096, .f32⟩
  | 75 => ⟨S16x1x4096, .f32⟩
  | 76 => ⟨S_, .f32⟩
  | 77 => ⟨S16x1x4096, .f32⟩
  | 78 => ⟨S16x1x4096, .f32⟩
  | 79 => ⟨S_, .f32⟩
  | 80 => ⟨S16x1x4096, .f32⟩
  | 81 => ⟨S16x1x4096, .f32⟩
  | 82 => ⟨S16x1x4096, .f32⟩
  | 83 => ⟨S16x1x4096, .f32⟩
  | 84 => ⟨S_, .f32⟩
  | 85 => ⟨S16x1x4096, .f32⟩
  | 86 => ⟨S16x1x4096, .f32⟩
  | 87 => ⟨S_, .f32⟩
  | 88 => ⟨S16x1x4096, .f32⟩
  | 89 => ⟨S16x1x4096, .f32⟩
  | 90 => ⟨S_, .i32⟩
  | 91 => ⟨S_, .f32⟩
  | 92 => ⟨S16x2x4102, .f32⟩
  | 93 => ⟨S_, .f32⟩
  | 94 => ⟨S16x1x4096, .f32⟩
  | 95 => ⟨S1x2x1, .f32⟩
  | 96 => ⟨S1x2, .f32⟩
  | 97 => ⟨S1x2x1, .f32⟩
  | 98 => ⟨S16x2x4096, .f32⟩
  | 99 => ⟨S16x2x4096, .f32⟩
  | 100 => ⟨S16x2x4096, .f32⟩
  | 101 => ⟨S_, .f32⟩
  | 102 => ⟨S16x4096, .f32⟩
  | 103 => ⟨S16x1x4096, .f32⟩
  | 104 => ⟨S16x1x4096, .f32⟩
  | 105 => ⟨S1x2x1, .f32⟩
  | 106 => ⟨S1x2, .f32⟩
  | 107 => ⟨S1x2x1, .f32⟩
  | 108 => ⟨S16x2x4096, .f32⟩
  | 109 => ⟨S16x2x4096, .f32⟩
  | 110 => ⟨S16x2x4096, .f32⟩
  | 111 => ⟨S_, .f32⟩
  | 112 => ⟨S16x4096, .f32⟩
  | 113 => ⟨S16x1x4096, .f32⟩
  | 114 => ⟨S16x1x4096, .f32⟩
  | 115 => ⟨S1x2x1, .f32⟩
  | 116 => ⟨S1x2, .f32⟩
  | 117 => ⟨S1x2x1, .f32⟩
  | 118 => ⟨S16x2x4096, .f32⟩
  | 119 => ⟨S16x2x4096, .f32⟩
  | 120 => ⟨S16x2x4096, .f32⟩
  | 121 => ⟨S_, .f32⟩
  | 122 => ⟨S16x4096, .f32⟩
  | 123 => ⟨S16x1x4096, .f32⟩
  | 124 => ⟨S16x1x4096, .f32⟩
  | 125 => ⟨S1x2x1, .f32⟩
  | 126 => ⟨S1x2, .f32⟩
  | 127 => ⟨S1x2x1, .f32⟩
  | _ => ⟨S16x384x4096, .f32⟩

abbrev hbmTy0_2 (i : Nat) : BufTy := match i % 128 with
  | 0 => ⟨S16x2x4096, .f32⟩
  | 1 => ⟨S16x2x4096, .f32⟩
  | 2 => ⟨S16x2x4096, .f32⟩
  | 3 => ⟨S_, .f32⟩
  | 4 => ⟨S16x4096, .f32⟩
  | 5 => ⟨S16x1x4096, .f32⟩
  | 6 => ⟨S16x1x4096, .f32⟩
  | 7 => ⟨S1x2x1, .f32⟩
  | 8 => ⟨S1x2, .f32⟩
  | 9 => ⟨S1x2x1, .f32⟩
  | 10 => ⟨S16x2x4096, .f32⟩
  | 11 => ⟨S16x2x4096, .f32⟩
  | 12 => ⟨S16x2x4096, .f32⟩
  | 13 => ⟨S_, .f32⟩
  | 14 => ⟨S16x4096, .f32⟩
  | 15 => ⟨S16x1x4096, .f32⟩
  | 16 => ⟨S16x1x4096, .f32⟩
  | 17 => ⟨S1x2x1, .f32⟩
  | 18 => ⟨S1x2, .f32⟩
  | 19 => ⟨S1x2x1, .f32⟩
  | 20 => ⟨S16x2x4096, .f32⟩
  | 21 => ⟨S16x2x4096, .f32⟩
  | 22 => ⟨S16x2x4096, .f32⟩
  | 23 => ⟨S_, .f32⟩
  | 24 => ⟨S16x4096, .f32⟩
  | 25 => ⟨S16x1x4096, .f32⟩
  | 26 => ⟨S16x1x4096, .f32⟩
  | 27 => ⟨S1x2x1, .f32⟩
  | 28 => ⟨S1x2, .f32⟩
  | 29 => ⟨S1x2x1, .f32⟩
  | 30 => ⟨S16x2x4096, .f32⟩
  | 31 => ⟨S16x2x4096, .f32⟩
  | 32 => ⟨S16x2x4096, .f32⟩
  | 33 => ⟨S_, .f32⟩
  | 34 => ⟨S16x4096, .f32⟩
  | 35 => ⟨S16x1x4096, .f32⟩
  | 36 => ⟨S16x1x4096, .f32⟩
  | 37 => ⟨S_, .f32⟩
  | 38 => ⟨S_, .f32⟩
  | 39 => ⟨S_, .f32⟩
  | 40 => ⟨S_, .f32⟩
  | 41 => ⟨S_, .i32⟩
  | 42 => ⟨S_, .f32⟩
  | 43 => ⟨S_, .f32⟩
  | 44 => ⟨S1x1x1, .f32⟩
  | 45 => ⟨S_, .f32⟩
  | 46 => ⟨S1x1x1, .f32⟩
  | 47 => ⟨S1x1x1, .f32⟩
  | 48 => ⟨S16x1x4096, .f32⟩
  | 49 => ⟨S16x1x4096, .f32⟩
  | 50 => ⟨S16x1x4096, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .i1⟩
  | 59 => ⟨S_, .f32⟩
  | 60 => ⟨S_, .f32⟩
  | 61 => ⟨S_, .f32⟩
  | 62 => ⟨S16x1x4096, .f32⟩
  | 63 => ⟨S16x1x4096, .f32⟩
  | 64 => ⟨S_, .f32⟩
  | 65 => ⟨S_, .f32⟩
  | 66 => ⟨S_, .f32⟩
  | 67 => ⟨S16x1x4096, .f32⟩
  | 68 => ⟨S16x1x4096, .f32⟩
  | 69 => ⟨S_, .f32⟩
  | 70 => ⟨S16x1x4096, .f32⟩
  | 71 => ⟨S16x1x4096, .f32⟩
  | 72 => ⟨S_, .f32⟩
  | 73 => ⟨S16x1x4096, .f32⟩
  | 74 => ⟨S16x1x4096, .f32⟩
  | 75 => ⟨S_, .f32⟩
  | 76 => ⟨S16x1x4096, .f32⟩
  | 77 => ⟨S16x1x4096, .f32⟩
  | 78 => ⟨S16x1x4096, .f32⟩
  | 79 => ⟨S16x1x4096, .f32⟩
  | 80 => ⟨S_, .f32⟩
  | 81 => ⟨S16x1x4096, .f32⟩
  | 82 => ⟨S16x1x4096, .f32⟩
  | 83 => ⟨S_, .f32⟩
  | 84 => ⟨S16x1x4096, .f32⟩
  | 85 => ⟨S16x1x4096, .f32⟩
  | 86 => ⟨S16x384x4096, .f32⟩
  | 87 => ⟨S16x384x4096, .f32⟩
  | 88 => ⟨S16x384x4096, .f32⟩
  | 89 => ⟨S16x384x4096, .f32⟩
  | 90 => ⟨S16x2x4096, .f32⟩
  | 91 => ⟨S16x384x4096, .f32⟩
  | _ => ⟨S16x384x4096, .f32⟩

abbrev hbmTy (i : Nat) : BufTy := match i / 128 with
  | 0 => hbmTy0_0 i
  | 1 => hbmTy0_1 i
  | 2 => hbmTy0_2 i
  | _ => ⟨S16x384x4096, .f32⟩

abbrev bufTy : (tb : Table) → Fin (tcTables nBuf tb) → BufTy
  | .hbm, ⟨i, _⟩ => hbmTy i
  | _, _ => ⟨S16x384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_values : Ref sig .tc := ⟨.hbm, 6, rfl⟩
abbrev main_indices : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_c_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_cst_15 : Ref sig .tc := ⟨.hbm, 77, rfl⟩
abbrev main_v53 : Ref sig .tc := ⟨.hbm, 78, rfl⟩
abbrev main_v54 : Ref sig .tc := ⟨.hbm, 79, rfl⟩
abbrev main_cst_16 : Ref sig .tc := ⟨.hbm, 80, rfl⟩
abbrev main_v55 : Ref sig .tc := ⟨.hbm, 81, rfl⟩
abbrev main_v56 : Ref sig .tc := ⟨.hbm, 82, rfl⟩
abbrev main_cst_17 : Ref sig .tc := ⟨.hbm, 83, rfl⟩
abbrev main_v57 : Ref sig .tc := ⟨.hbm, 84, rfl⟩
abbrev main_v58 : Ref sig .tc := ⟨.hbm, 85, rfl⟩
abbrev main_cst_18 : Ref sig .tc := ⟨.hbm, 86, rfl⟩
abbrev main_v59 : Ref sig .tc := ⟨.hbm, 87, rfl⟩
abbrev main_v60 : Ref sig .tc := ⟨.hbm, 88, rfl⟩
abbrev main_cst_19 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_20 : Ref sig .tc := ⟨.hbm, 94, rfl⟩
abbrev main_call0_v0 : Ref sig .tc := ⟨.hbm, 95, rfl⟩
abbrev main_v65 : Ref sig .tc := ⟨.hbm, 96, rfl⟩
abbrev main_cst_21 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_22 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_23 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_24 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_25 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_26 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_27 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_cst_28 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_29 : Ref sig .tc := ⟨.hbm, 169, rfl⟩
abbrev main_v130 : Ref sig .tc := ⟨.hbm, 170, rfl⟩
abbrev main_cst_30 : Ref sig .tc := ⟨.hbm, 171, rfl⟩
abbrev main_v131 : Ref sig .tc := ⟨.hbm, 172, rfl⟩
abbrev main_c_31 : Ref sig .tc := ⟨.hbm, 173, rfl⟩
abbrev main_call1_cst : Ref sig .tc := ⟨.hbm, 174, rfl⟩
abbrev main_call1_v0 : Ref sig .tc := ⟨.hbm, 175, rfl⟩
abbrev main_call1_v1 : Ref sig .tc := ⟨.hbm, 176, rfl⟩
abbrev main_call1_cst_0 : Ref sig .tc := ⟨.hbm, 177, rfl⟩
abbrev main_call1_v2 : Ref sig .tc := ⟨.hbm, 178, rfl⟩
abbrev main_call1_v3 : Ref sig .tc := ⟨.hbm, 179, rfl⟩
abbrev main_call1_v4 : Ref sig .tc := ⟨.hbm, 180, rfl⟩
abbrev main_call1_v5 : Ref sig .tc := ⟨.hbm, 181, rfl⟩
abbrev main_call1_v6 : Ref sig .tc := ⟨.hbm, 182, rfl⟩
abbrev main_call1_v7 : Ref sig .tc := ⟨.hbm, 183, rfl⟩
abbrev main_call1_cst_1 : Ref sig .tc := ⟨.hbm, 184, rfl⟩
abbrev main_call1_v8 : Ref sig .tc := ⟨.hbm, 185, rfl⟩
abbrev main_call1_cst_2 : Ref sig .tc := ⟨.hbm, 186, rfl⟩
abbrev main_call1_v9 : Ref sig .tc := ⟨.hbm, 187, rfl⟩
abbrev main_call1_v10 : Ref sig .tc := ⟨.hbm, 188, rfl⟩
abbrev main_call1_cst_3 : Ref sig .tc := ⟨.hbm, 189, rfl⟩
abbrev main_call1_v11 : Ref sig .tc := ⟨.hbm, 190, rfl⟩
abbrev main_call1_cst_4 : Ref sig .tc := ⟨.hbm, 191, rfl⟩
abbrev main_call1_call0_v0 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_cst_32 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_cst_33 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_cst_34 : Ref sig .tc := ⟨.hbm, 212, rfl⟩
abbrev main_v149 : Ref sig .tc := ⟨.hbm, 213, rfl⟩
abbrev main_v150 : Ref sig .tc := ⟨.hbm, 214, rfl⟩
abbrev main_cst_35 : Ref sig .tc := ⟨.hbm, 215, rfl⟩
abbrev main_v151 : Ref sig .tc := ⟨.hbm, 216, rfl⟩
abbrev main_v152 : Ref sig .tc := ⟨.hbm, 217, rfl⟩
abbrev main_c_36 : Ref sig .tc := ⟨.hbm, 218, rfl⟩
abbrev main_call2_v0 : Ref sig .tc := ⟨.hbm, 219, rfl⟩
abbrev main_v153 : Ref sig .tc := ⟨.hbm, 220, rfl⟩
abbrev main_cst_37 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_cst_38 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_cst_39 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_cst_40 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_cst_41 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_cst_42 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_cst_43 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_cst_44 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_cst_45 : Ref sig .tc := ⟨.hbm, 293, rfl⟩
abbrev main_v218 : Ref sig .tc := ⟨.hbm, 294, rfl⟩
abbrev main_cst_46 : Ref sig .tc := ⟨.hbm, 295, rfl⟩
abbrev main_v219 : Ref sig .tc := ⟨.hbm, 296, rfl⟩
abbrev main_c_47 : Ref sig .tc := ⟨.hbm, 297, rfl⟩
abbrev main_call3_cst : Ref sig .tc := ⟨.hbm, 298, rfl⟩
abbrev main_call3_v0 : Ref sig .tc := ⟨.hbm, 299, rfl⟩
abbrev main_call3_v1 : Ref sig .tc := ⟨.hbm, 300, rfl⟩
abbrev main_call3_cst_0 : Ref sig .tc := ⟨.hbm, 301, rfl⟩
abbrev main_call3_v2 : Ref sig .tc := ⟨.hbm, 302, rfl⟩
abbrev main_call3_v3 : Ref sig .tc := ⟨.hbm, 303, rfl⟩
abbrev main_call3_v4 : Ref sig .tc := ⟨.hbm, 304, rfl⟩
abbrev main_call3_v5 : Ref sig .tc := ⟨.hbm, 305, rfl⟩
abbrev main_call3_v6 : Ref sig .tc := ⟨.hbm, 306, rfl⟩
abbrev main_call3_v7 : Ref sig .tc := ⟨.hbm, 307, rfl⟩
abbrev main_call3_cst_1 : Ref sig .tc := ⟨.hbm, 308, rfl⟩
abbrev main_call3_v8 : Ref sig .tc := ⟨.hbm, 309, rfl⟩
abbrev main_call3_cst_2 : Ref sig .tc := ⟨.hbm, 310, rfl⟩
abbrev main_call3_v9 : Ref sig .tc := ⟨.hbm, 311, rfl⟩
abbrev main_call3_v10 : Ref sig .tc := ⟨.hbm, 312, rfl⟩
abbrev main_call3_cst_3 : Ref sig .tc := ⟨.hbm, 313, rfl⟩
abbrev main_call3_v11 : Ref sig .tc := ⟨.hbm, 314, rfl⟩
abbrev main_call3_cst_4 : Ref sig .tc := ⟨.hbm, 315, rfl⟩
abbrev main_call3_call0_v0 : Ref sig .tc := ⟨.hbm, 316, rfl⟩
abbrev main_v220 : Ref sig .tc := ⟨.hbm, 317, rfl⟩
abbrev main_v221 : Ref sig .tc := ⟨.hbm, 318, rfl⟩
abbrev main_v222 : Ref sig .tc := ⟨.hbm, 319, rfl⟩
abbrev main_cst_48 : Ref sig .tc := ⟨.hbm, 320, rfl⟩
abbrev main_v223 : Ref sig .tc := ⟨.hbm, 321, rfl⟩
abbrev main_v224 : Ref sig .tc := ⟨.hbm, 322, rfl⟩
abbrev main_v225 : Ref sig .tc := ⟨.hbm, 323, rfl⟩
abbrev main_v226 : Ref sig .tc := ⟨.hbm, 324, rfl⟩
abbrev main_v227 : Ref sig .tc := ⟨.hbm, 325, rfl⟩
abbrev main_v228 : Ref sig .tc := ⟨.hbm, 326, rfl⟩
abbrev main_v229 : Ref sig .tc := ⟨.hbm, 327, rfl⟩
abbrev main_v230 : Ref sig .tc := ⟨.hbm, 328, rfl⟩
abbrev main_v231 : Ref sig .tc := ⟨.hbm, 329, rfl⟩
abbrev main_v232 : Ref sig .tc := ⟨.hbm, 330, rfl⟩
abbrev main_cst_49 : Ref sig .tc := ⟨.hbm, 331, rfl⟩
abbrev main_v233 : Ref sig .tc := ⟨.hbm, 332, rfl⟩
abbrev main_v234 : Ref sig .tc := ⟨.hbm, 333, rfl⟩
abbrev main_v235 : Ref sig .tc := ⟨.hbm, 334, rfl⟩
abbrev main_v236 : Ref sig .tc := ⟨.hbm, 335, rfl⟩
abbrev main_cst_50 : Ref sig .tc := ⟨.hbm, 336, rfl⟩
abbrev main_v237 : Ref sig .tc := ⟨.hbm, 337, rfl⟩
abbrev main_v238 : Ref sig .tc := ⟨.hbm, 338, rfl⟩
abbrev main_cst_51 : Ref sig .tc := ⟨.hbm, 339, rfl⟩
abbrev main_v239 : Ref sig .tc := ⟨.hbm, 340, rfl⟩
abbrev main_v240 : Ref sig .tc := ⟨.hbm, 341, rfl⟩
abbrev main_v241 : Ref sig .tc := ⟨.hbm, 342, rfl⟩
abbrev main_v242 : Ref sig .tc := ⟨.hbm, 343, rfl⟩
abbrev main_v243 : Ref sig .tc := ⟨.hbm, 344, rfl⟩
abbrev main_v244 : Ref sig .tc := ⟨.hbm, 345, rfl⟩
abbrev main_v245 : Ref sig .tc := ⟨.hbm, 346, rfl⟩
abbrev main_v246 : Ref sig .tc := ⟨.hbm, 347, rfl⟩

abbrev nD : Nat := 1
abbrev τ : Topo := Topo.v7x

variable {F : FTy → Type} [FloatOps F]
-- ==== Proof.KI.Body0.lean ====
/-
  The first kernel of `@main` (`_pool_attn_kernel`): one run of its body over any whole staging memrefs, at a grid point
  before the last (the batch's pooled rows go into the carried buffer) and at the last (the attention rows are then
  computed from the whole carried buffer).
-/
module

public import proofs.«01_k».proof.Proof.Gen.KernelIdeal.Skeleton
public import Idealize.ShloMosaic.Lib.Pipeline.FrameBody
public import Idealize.ShloMosaic.Lib.VecWindow
public import Idealize.ShloMosaic.Lib.WritesUnit
public import Idealize.ShloMosaic.Lib.Pointwise.Index
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's resources: the pipeline library's own algebra, one level index, numbered names. -/
local notation "𝕄" => MT nD τ sig Unit (Elt F) ℕ (UR sig nD τ) ℕ

/-- The mask block of a batch from its two copies of the channel map. -/
abbrev maskOf (X1 : FVec F S1x1x384 .f32) (X2 : FVec F S1x384x1 .f32) : FVec F S1x384x1 .f32 := k0_pay22 X1 X2

/-- The features of a batch, narrowed. -/
abbrev featOf (X3 : FVec F S1x384x4096 .f32) : FVec F S1x384x4096 .bf16 := k0_pay1 (k0_pay24 X3)

/-- The four pooled rows of a batch. -/
abbrev poolOf (X1 : FVec F S1x1x384 .f32) (X2 : FVec F S1x384x1 .f32) (X3 : FVec F S1x384x4096 .f32) : FVec F S1x4x4096 .f32 :=
  k0_pay2 (k0_pay20 X1 X2) (k0_pay21 X1 X2) (k0_pay23 X3)

/-- The first attention row of every batch from all pooled rows, the convolution's weights and the two scalars. -/
def attnRow0 (S : FVec F S16x4x4096 .f32) (W : FVec F S2x7 .f32) (g be : FVec F S1x1 .f32) : FVec F S16x1x4096 .f32 :=
  k0_pay13 (k0_pay7 be) (k0_pay12 (k0_pay4 W) (k0_pay6 g) (k0_pay8 S) (k0_pay9 S) (k0_pay10 S W) (k0_pay11 S W))

/-- The second attention row. -/
def attnRow1 (S : FVec F S16x4x4096 .f32) (W : FVec F S2x7 .f32) (g be : FVec F S1x1 .f32) : FVec F S16x1x4096 .f32 :=
  k0_pay3 (k0_pay18 (k0_pay4 W) (k0_pay6 g) (k0_pay7 be) (k0_pay14 S (k0_pay5 (F := F))) (k0_pay15 S (k0_pay5 (F := F)))
    (k0_pay16 S (k0_pay4 W) (k0_pay5 (F := F))) (k0_pay17 S (k0_pay4 W) (k0_pay5 (F := F))))

/-- Both attention rows, as the kernel's first result holds them. -/
def attnOf (S : FVec F S16x4x4096 .f32) (W : FVec F S2x7 .f32) (g be : FVec F S1x1 .f32) : FVec F S16x2x4096 .f32 :=
  fun y => if (y 1).val = 0 then attnRow0 S W g be (ix3 (y 0) 0 (y 2)) else attnRow1 S W g be (ix3 (y 0) 0 (y 2))

/-- One run of the first kernel's body at a point before the last. -/
theorem pool_run (c : Dev nD) (i : grid0.Coords)
    (M1 : Memref sig .tc .vmem S1x1x384 .f32) (h1 : M1.IsWhole) (M2 : Memref sig .tc .vmem S1x384x1 .f32) (h2 : M2.IsWhole)
    (M3 : Memref sig .tc .vmem S1x384x4096 .f32) (h3 : M3.IsWhole) (M4 : Memref sig .tc .vmem S2x7 .f32) (h4 : M4.IsWhole)
    (M5 : Memref sig .tc .vmem S1x1 .f32) (h5 : M5.IsWhole) (M6 : Memref sig .tc .vmem S1x1 .f32) (h6 : M6.IsWhole)
    (M7 : Memref sig .tc .vmem S16x2x4096 .f32) (h7 : M7.IsWhole) (M8 : Memref sig .tc .vmem S1x384x1 .f32) (h8 : M8.IsWhole)
    (M9 : Memref sig .tc .vmem S1x384x4096 .bf16) (h9 : M9.IsWhole) (M10 : Memref sig .tc .vmem S16x4x4096 .f32) (h10 : M10.IsWhole)
    (X1 : FVec F S1x1x384 .f32) (X2 : FVec F S1x384x1 .f32) (X3 : FVec F S1x384x4096 .f32) (S : FVec F S16x4x4096 .f32)
    (hc : ¬ k0_cond1 i = 1#1) (E : Set ℕ) (Q : PUnit → sProp 𝕄) :
    iprop(owns (c : Thread nD τ) M1 fullShare X1 ∗ owns (c : Thread nD τ) M2 fullShare X2 ∗ owns (c : Thread nD τ) M3 fullShare X3 ∗ (∃ d, owns (c : Thread nD τ) M8 fullShare d) ∗ (∃ d, owns (c : Thread nD τ) M9 fullShare d) ∗ owns (c : Thread nD τ) M10 fullShare S
        ∗ (iprop(owns (c : Thread nD τ) M1 fullShare X1 ∗ owns (c : Thread nD τ) M2 fullShare X2 ∗ owns (c : Thread nD τ) M3 fullShare X3 ∗ owns (c : Thread nD τ) M8 fullShare (maskOf X1 X2) ∗ owns (c : Thread nD τ) M9 fullShare (featOf X3) ∗ owns (c : Thread nD τ) M10 fullShare (VecWindow.put S (k0_off1 i) S1x4x4096.size (poolOf X1 X2 X3))) -∗ Q ⟨⟩))
      ⊢ wp frame (wpE (defs₀ (F := F)) Variants.none c none) E
          (cc0__pool_attn_kernel i M1 h1 M2 h2 M3 h3 M4 h4 M5 h5 M6 h6 M7 h7 M8 h8 M9 h9 M10 h10) Q := by
  unfold owns
  iintro ⟨⟨%f1, %e1, H1⟩, ⟨%f2, %e2, H2⟩, ⟨%f3, %e3, H3⟩, ⟨%d8, %f8, %e8, H8⟩, ⟨%d9, %f9, %e9, H9⟩, ⟨%f10, %e10, H10⟩, Hk⟩
  rw [cc0__pool_attn_kernel_eq_skeleton]
  unfold cc0__pool_attn_kernel_skel
  rw [k0_part5_eq_skeleton]; unfold k0_part5_skel
  sl_exec
  sl_step
  have a1 := (View.readAt_full M1.view f1 inb_S1x1x384_S1x1x384_0_0_0).trans e1
  have a2 := (View.readAt_full M2.view f2 inb_S1x384x1_S1x384x1_0_0_0).trans e2
  have a3 := (View.readAt_full M3.view f3 inb_S1x384x4096_S1x384x4096_0_0_0).trans e3
  have ep : k0_pay2 (k0_pay20 (View.readAt (Elt F) M1.view (Rect.unit ![0, 0, 0] S1x1x384.size inb_S1x1x384_S1x1x384_0_0_0).toLoadRect f1) (View.readAt (Elt F) M2.view (Rect.unit ![0, 0, 0] S1x384x1.size inb_S1x384x1_S1x384x1_0_0_0).toLoadRect f2))
      (k0_pay21 (View.readAt (Elt F) M1.view (Rect.unit ![0, 0, 0] S1x1x384.size inb_S1x1x384_S1x1x384_0_0_0).toLoadRect f1) (View.readAt (Elt F) M2.view (Rect.unit ![0, 0, 0] S1x384x1.size inb_S1x384x1_S1x384x1_0_0_0).toLoadRect f2))
      (k0_pay23 (View.readAt (Elt F) M3.view (Rect.unit ![0, 0, 0] S1x384x4096.size inb_S1x384x4096_S1x384x4096_0_0_0).toLoadRect f3)) = poolOf X1 X2 X3 := by
    unfold poolOf
    rw [← a1, ← a2, ← a3]
  have eS : M10.view.read (Elt F) (M10.view.writes (Elt F) f10 [⟨Rect.unit (s := S16x4x4096) (k0_off1 i) S1x4x4096.size (k0_off1_inb i), k0_pay2 (k0_pay20 (View.readAt (Elt F) M1.view (Rect.unit ![0, 0, 0] S1x1x384.size inb_S1x1x384_S1x1x384_0_0_0).toLoadRect f1) (View.readAt (Elt F) M2.view (Rect.unit ![0, 0, 0] S1x384x1.size inb_S1x384x1_S1x384x1_0_0_0).toLoadRect f2))
      (k0_pay21 (View.readAt (Elt F) M1.view (Rect.unit ![0, 0, 0] S1x1x384.size inb_S1x1x384_S1x1x384_0_0_0).toLoadRect f1) (View.readAt (Elt F) M2.view (Rect.unit ![0, 0, 0] S1x384x1.size inb_S1x384x1_S1x384x1_0_0_0).toLoadRect f2))
      (k0_pay23 (View.readAt (Elt F) M3.view (Rect.unit ![0, 0, 0] S1x384x4096.size inb_S1x384x4096_S1x384x4096_0_0_0).toLoadRect f3))⟩])
      = VecWindow.put S (k0_off1 i) S1x4x4096.size (poolOf X1 X2 X3) := by
    refine (View.read_writes_cons_put M10.view f10 (k0_off1_inb i) _ [] rfl).trans ?_
    rw [View.writes_nil, e10, ep]
  iapply Hk
  isplitl [H1]
  · iexists f1
    isplitr
    · ipureintro
      exact e1
    · iexact H1
  isplitl [H2]
  · iexists f2
    isplitr
    · ipureintro
      exact e2
    · iexact H2
  isplitl [H3]
  · iexists f3
    isplitr
    · ipureintro
      exact e3
    · iexact H3
  isplitl [H8]
  · iexists _
    isplitr
    rotate_left
    · iexact H8
    · ipureintro
      exact (View.read_writes_full _ _ _ _ _).trans (congrArg₂ k0_pay22 a1 a2)
  isplitl [H9]
  · iexists _
    isplitr
    rotate_left
    · iexact H9
    · ipureintro
      exact (View.read_writes_full _ _ _ _ _).trans (congrArg (fun x => k0_pay1 (k0_pay24 x)) a3)
  iexists _
  isplitr
  rotate_left
  · iexact H10
  · ipureintro
    exact eS

/-- One run of the first kernel's body at the last point. -/
theorem attn_run (c : Dev nD) (i : grid0.Coords)
    (M1 : Memref sig .tc .vmem S1x1x384 .f32) (h1 : M1.IsWhole) (M2 : Memref sig .tc .vmem S1x384x1 .f32) (h2 : M2.IsWhole)
    (M3 : Memref sig .tc .vmem S1x384x4096 .f32) (h3 : M3.IsWhole) (M4 : Memref sig .tc .vmem S2x7 .f32) (h4 : M4.IsWhole)
    (M5 : Memref sig .tc .vmem S1x1 .f32) (h5 : M5.IsWhole) (M6 : Memref sig .tc .vmem S1x1 .f32) (h6 : M6.IsWhole)
    (M7 : Memref sig .tc .vmem S16x2x4096 .f32) (h7 : M7.IsWhole) (M8 : Memref sig .tc .vmem S1x384x1 .f32) (h8 : M8.IsWhole)
    (M9 : Memref sig .tc .vmem S1x384x4096 .bf16) (h9 : M9.IsWhole) (M10 : Memref sig .tc .vmem S16x4x4096 .f32) (h10 : M10.IsWhole)
    (X1 : FVec F S1x1x384 .f32) (X2 : FVec F S1x384x1 .f32) (X3 : FVec F S1x384x4096 .f32) (X4 : FVec F S2x7 .f32) (X5 X6 : FVec F S1x1 .f32)
    (S : FVec F S16x4x4096 .f32) (hc : k0_cond1 i = 1#1) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ (∃ d, owns (c : Thread nD τ) M7 fullShare d) ∗ (∃ d, owns (c : Thread nD τ) M8 fullShare d) ∗ (∃ d, owns (c : Thread nD τ) M9 fullShare d) ∗ owns (c : Thread nD τ) M10 fullShare S
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare (attnOf (VecWindow.put S (k0_off1 i) S1x4x4096.size (poolOf X1 X2 X3)) X4 X5 X6) ∗ owns (c : Thread nD τ) M8 fullShare (maskOf X1 X2) ∗ owns (c : Thread nD τ) M9 fullShare (featOf X3) ∗ owns (c : Thread nD τ) M10 fullShare (VecWindow.put S (k0_off1 i) S1x4x4096.size (poolOf X1 X2 X3))) -∗ Q ⟨⟩))
      ⊢ wp frame (wpE (defs₀ (F := F)) Variants.none c none) E
          (cc0__pool_attn_kernel i M1 h1 M2 h2 M3 h3 M4 h4 M5 h5 M6 h6 M7 h7 M8 h8 M9 h9 M10 h10) Q := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, %e7, H7⟩, ⟨%d8, %f8, %e8, H8⟩, ⟨%d9, %f9, %e9, H9⟩, ⟨%f10, %e10, H10⟩, Hk⟩
  rw [cc0__pool_attn_kernel_eq_skeleton]
  unfold cc0__pool_attn_kernel_skel
  rw [k0_part5_eq_skeleton]; unfold k0_part5_skel
  sl_exec
  sl_step
  have a1 := (View.readAt_full M1.view f1 inb_S1x1x384_S1x1x384_0_0_0).trans e1
  have a2 := (View.readAt_full M2.view f2 inb_S1x384x1_S1x384x1_0_0_0).trans e2
  have a3 := (View.readAt_full M3.view f3 inb_S1x384x4096_S1x384x4096_0_0_0).trans e3
  have ep : k0_pay2 (k0_pay20 (View.readAt (Elt F) M1.view (Rect.unit ![0, 0, 0] S1x1x384.size inb_S1x1x384_S1x1x384_0_0_0).toLoadRect f1) (View.readAt (Elt F) M2.view (Rect.unit ![0, 0, 0] S1x384x1.size inb_S1x384x1_S1x384x1_0_0_0).toLoadRect f2))
      (k0_pay21 (View.readAt (Elt F) M1.view (Rect.unit ![0, 0, 0] S1x1x384.size inb_S1x1x384_S1x1x384_0_0_0).toLoadRect f1) (View.readAt (Elt F) M2.view (Rect.unit ![0, 0, 0] S1x384x1.size inb_S1x384x1_S1x384x1_0_0_0).toLoadRect f2))
      (k0_pay23 (View.readAt (Elt F) M3.view (Rect.unit ![0, 0, 0] S1x384x4096.size inb_S1x384x4096_S1x384x4096_0_0_0).toLoadRect f3)) = poolOf X1 X2 X3 := by
    unfold poolOf
    rw [← a1, ← a2, ← a3]
  have eS : M10.view.read (Elt F) (M10.view.writes (Elt F) f10 [⟨Rect.unit (s := S16x4x4096) (k0_off1 i) S1x4x4096.size (k0_off1_inb i), k0_pay2 (k0_pay20 (View.readAt (Elt F) M1.view (Rect.unit ![0, 0, 0] S1x1x384.size inb_S1x1x384_S1x1x384_0_0_0).toLoadRect f1) (View.readAt (Elt F) M2.view (Rect.unit ![0, 0, 0] S1x384x1.size inb_S1x384x1_S1x384x1_0_0_0).toLoadRect f2))
      (k0_pay21 (View.readAt (Elt F) M1.view (Rect.unit ![0, 0, 0] S1x1x384.size inb_S1x1x384_S1x1x384_0_0_0).toLoadRect f1) (View.readAt (Elt F) M2.view (Rect.unit ![0, 0, 0] S1x384x1.size inb_S1x384x1_S1x384x1_0_0_0).toLoadRect f2))
      (k0_pay23 (View.readAt (Elt F) M3.view (Rect.unit ![0, 0, 0] S1x384x4096.size inb_S1x384x4096_S1x384x4096_0_0_0).toLoadRect f3))⟩])
      = VecWindow.put S (k0_off1 i) S1x4x4096.size (poolOf X1 X2 X3) := by
    refine (View.read_writes_cons_put M10.view f10 (k0_off1_inb i) _ [] rfl).trans ?_
    rw [View.writes_nil, e10, ep]
  have a4 := (View.readAt_full M4.view f4 inb_S2x7_S2x7_0_0).trans e4
  have a5 := (View.readAt_full M5.view f5 inb_S1x1_S1x1_0_0).trans e5
  have a6 := (View.readAt_full M6.view f6 inb_S1x1_S1x1_0_0).trans e6
  have b10 := (View.readAt_full M10.view (M10.view.writes (Elt F) f10 (attn_run.sl.H10_1 c i M1 M2 M3 f1 f2 f3)) inb_S16x4x4096_S16x4x4096_0_0_0).trans eS
  iapply Hk
  isplitl [H1]
  · iexists f1
    isplitr
    · ipureintro
      exact e1
    · iexact H1
  isplitl [H2]
  · iexists f2
    isplitr
    · ipureintro
      exact e2
    · iexact H2
  isplitl [H3]
  · iexists f3
    isplitr
    · ipureintro
      exact e3
    · iexact H3
  isplitl [H4]
  · iexists f4
    isplitr
    · ipureintro
      exact e4
    · iexact H4
  isplitl [H5]
  · iexists f5
    isplitr
    · ipureintro
      exact e5
    · iexact H5
  isplitl [H6]
  · iexists f6
    isplitr
    · ipureintro
      exact e6
    · iexact H6
  isplitl [H7]
  · iexists _
    isplitr
    rotate_left
    · iexact H7
    · ipureintro
      rw [← b10, ← a4, ← a5, ← a6]
      funext y
      unfold attnOf
      by_cases h : (y 1).val = 0
      · rw [if_pos h]
        refine (View.read_writes_cons_unit_of_not_mem M7.view f7 inb_S16x2x4096_S16x1x4096_0_1_0 _ _ y rfl (1 : Fin 3)
          (Or.inl (show (y 1).val < 1 by omega))).trans ?_
        refine (View.read_writes_cons_unit_of_mem M7.view f7 inb_S16x2x4096_S16x1x4096_0_0_0 _ _ y
          (ix3 (n0 := 16) (n1 := 1) (n2 := 4096) (y 0) 0 (y 2)) rfl ?_).trans rfl
        intro a
        fin_cases a
        · exact (Nat.zero_add _).symm
        · exact h
        · exact (Nat.zero_add _).symm
      · rw [if_neg h]
        refine (View.read_writes_cons_unit_of_mem M7.view f7 inb_S16x2x4096_S16x1x4096_0_1_0 _ _ y
          (ix3 (n0 := 16) (n1 := 1) (n2 := 4096) (y 0) 0 (y 2)) rfl ?_).trans rfl
        intro a
        fin_cases a
        · exact (Nat.zero_add _).symm
        · have : (y 1).val < 2 := (y 1).isLt
          show (y 1).val = 1 + 0
          omega
        · exact (Nat.zero_add _).symm
  isplitl [H8]
  · iexists _
    isplitr
    rotate_left
    · iexact H8
    · ipureintro
      exact (View.read_writes_full _ _ _ _ _).trans (congrArg₂ k0_pay22 a1 a2)
  isplitl [H9]
  · iexists _
    isplitr
    rotate_left
    · iexact H9
    · ipureintro
      exact (View.read_writes_full _ _ _ _ _).trans (congrArg (fun x => k0_pay1 (k0_pay24 x)) a3)
  iexists _
  isplitr
  rotate_left
  · iexact H10
  · ipureintro
    exact eS

end Cert.KernelIdeal.Hand

end
-- ==== Proof.KI.Region0.lean ====
/-
  The first pallas_call (`_pool_attn_kernel`): its proof data over any contents of the unscoped buffers at entry, and
  its body obligation. The scratch carries the pooled rows: before point `t` its rows below `t` are the pooled rows of
  those batches, the others anything; at the last point every row is known and the attention is computed from them.
-/
module

public import proofs.«01_k».proof.Proof.KI.Body0
public import proofs.«01_k».proof.Proof.Gen.KernelIdeal.Launch
public import proofs.«01_k».proof.Proof.Gen.KernelIdeal.Points
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's resources. -/
local notation "𝕄" => MT nD τ sig Unit (Elt F) ℕ (UR sig nD τ) ℕ

-- the contents of every core's unscoped buffers where the region is entered
variable (V : Dev nD → Valuation τ sig (Elt F))

/-- Window `w`'s block at point `t`, as the entry contents have it. -/
def blk0 (c : Dev nD) (w : Fin 9) (t : Fin cfg0.N) : ((cfg0.win w).xblock (cfg0.grid.coords t)).Idx → Elt F (cfg0.win w).elt :=
  ((cfg0.win w).blk t).view.read (Elt F) (V c (Proc.devRef .tc (Pipeline.arrRef spec0 w)))

/-- Batch `b` as a grid point. -/
abbrev pt0 (b : Fin 16) : Fin cfg0.N := Fin.cast N_0.symm b

/-- The pooled rows of the batch at point `t`. -/
def poolAt (c : Dev nD) (t : Fin cfg0.N) : FVec F S1x4x4096 .f32 := poolOf (blk0 V c 0 t) (blk0 V c 1 t) (blk0 V c 2 t)

/-- The pooled rows of every batch. -/
def poolAll (c : Dev nD) : FVec F S16x4x4096 .f32 := fun y => poolAt V c (pt0 (y 0)) (ix3 0 (y 1) (y 2))

/-- The scoped buffers of the other pallas_call, which this one never touches. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The scratch holds the pooled rows of the batches below `n`. -/
def Filled (c : Dev nD) (n : ℕ) (S : FVec F S16x4x4096 .f32) : Prop :=
  ∀ y : S16x4x4096.Idx, (y 0).val < n → S y = poolAll V c y

/-- The invariant before point `n`. -/
def Phi0 (c : Dev nD) (n : ℕ) (_h : n ≤ cfg0.N) : sProp 𝕄 :=
  iprop((∃ S : FVec F S16x4x4096 .f32, ⌜Filled V c n S⌝ ∗ owns (c : Thread nD τ) (Memref.whole cc0_scratch0) fullShare S) ∗ rest0 c)

/-- What each window's buffer holds after the body at point `t`: an input its block, the mask and the features of the
    batch, and (written back at the last point alone) the attention of all batches. -/
def after0 (c : Dev nD) : (w : Fin 9) → Fin cfg0.N → (cfg0.win w).block.Idx → Elt F (cfg0.win w).elt
  | 0 => fun t => blk0 V c 0 t
  | 1 => fun t => blk0 V c 1 t
  | 2 => fun t => blk0 V c 2 t
  | 3 => fun t => blk0 V c 3 t
  | 4 => fun t => blk0 V c 4 t
  | 5 => fun t => blk0 V c 5 t
  | 6 => fun t => attnOf (poolAll V c) (blk0 V c 3 t) (blk0 V c 4 t) (blk0 V c 5 t)
  | 7 => fun t => maskOf (blk0 V c 0 t) (blk0 V c 1 t)
  | 8 => fun t => featOf (blk0 V c 2 t)
  | ⟨_ + 9, h⟩ => absurd h (Nat.not_lt.2 (Nat.le_add_left _ _))

/-- The proof data of the first pallas_call. -/
def dat0 (c : Dev nD) : Dat τ (Elt F) Unit ℕ (UR sig nD τ) ℕ cfg0 c where
  A w := V c (Proc.devRef .tc (Pipeline.arrRef spec0 w))
  after := after0 V c
  Φ t := Phi0 V c t.val (Nat.le_of_lt_succ t.isLt)
  q _ := fullShare
  owed _ := 0

/-- The kernel's row of the body table at point `t`. -/
theorem row0 (t : Fin cfg0.N) : defs₀ (F := F) .tc cfg0.body (cfg0.bodyArgs t (cfg0.slots t)) = bodyAt0 t := by
  unfold defs₀
  rw [Defs.onTc_tc]

/-- The first coordinate of a point is the point. -/
theorem coord0 : ∀ t : Fin cfg0.N, (grid0.coords t 0).val = t.val := by decide +kernel

/-- The body's condition holds at the last point alone. -/
theorem cond0 : ∀ t : Fin cfg0.N, k0_cond1 (grid0.coords t) = 1#1 ↔ t.val = 15 := by decide +kernel

/-- Before a grid point of the first call, the staging buffer of window 0 holds the block of the channel weights as a row. -/
theorem before0_0 (c : Dev nD) (t : Fin cfg0.N) (d) : (dat0 V c).before 0 t d = blk0 V c 0 t :=
  ((dat0 V c).before_in_eq_fetched 0 rfl (fun _ => rfl) (fun _ _ _ => rfl) (fun _ => rfl) t d).trans rfl
/-- Before a grid point of the first call, the staging buffer of window 1 holds the block of the channel weights as a column. -/
theorem before0_1 (c : Dev nD) (t : Fin cfg0.N) (d) : (dat0 V c).before 1 t d = blk0 V c 1 t :=
  ((dat0 V c).before_in_eq_fetched 1 rfl (fun _ => rfl) (fun _ _ _ => rfl) (fun _ => rfl) t d).trans rfl
/-- Before a grid point of the first call, the staging buffer of window 2 holds the block of the features. -/
theorem before0_2 (c : Dev nD) (t : Fin cfg0.N) (d) : (dat0 V c).before 2 t d = blk0 V c 2 t :=
  ((dat0 V c).before_in_eq_fetched 2 rfl (fun _ => rfl) (fun _ _ _ => rfl) (fun _ => rfl) t d).trans rfl
/-- Before a grid point of the first call, the staging buffer of window 3 holds the block of the taps. -/
theorem before0_3 (c : Dev nD) (t : Fin cfg0.N) (d) : (dat0 V c).before 3 t d = blk0 V c 3 t :=
  ((dat0 V c).before_in_eq_fetched 3 rfl (fun _ => rfl) (fun _ _ _ => rfl) (fun _ => rfl) t d).trans rfl
/-- Before a grid point of the first call, the staging buffer of window 4 holds the block of the scale. -/
theorem before0_4 (c : Dev nD) (t : Fin cfg0.N) (d) : (dat0 V c).before 4 t d = blk0 V c 4 t :=
  ((dat0 V c).before_in_eq_fetched 4 rfl (fun _ => rfl) (fun _ _ _ => rfl) (fun _ => rfl) t d).trans rfl
/-- Before a grid point of the first call, the staging buffer of window 5 holds the block of the shift. -/
theorem before0_5 (c : Dev nD) (t : Fin cfg0.N) (d) : (dat0 V c).before 5 t d = blk0 V c 5 t :=
  ((dat0 V c).before_in_eq_fetched 5 rfl (fun _ => rfl) (fun _ _ _ => rfl) (fun _ => rfl) t d).trans rfl

/-- Putting batch `t`'s pooled rows extends what the scratch is known to hold by that batch. -/
theorem filled_put (c : Dev nD) (t : Fin cfg0.N) (S : FVec F S16x4x4096 .f32) (h : Filled V c t.val S) :
    Filled V c (t.val + 1) (VecWindow.put S (k0_off1 (grid0.coords t)) S1x4x4096.size (poolAt V c t)) := by
  intro y hy
  have h1 : (y 1).val < 4 := (y 1).isLt
  have h2 : (y 2).val < 4096 := (y 2).isLt
  by_cases e : (y 0).val = t.val
  · have hin : ∀ a : Fin 3, k0_off1 (grid0.coords t) a ≤ (y a).val ∧ (y a).val < k0_off1 (grid0.coords t) a + S1x4x4096.size a := by
      rw [k0_off1_eq, coord0]
      intro a
      fin_cases a
      · exact ⟨e.ge, by show (y 0).val < t.val + 1; omega⟩
      · exact ⟨Nat.zero_le _, by show (y 1).val < 0 + 4; omega⟩
      · exact ⟨Nat.zero_le _, by show (y 2).val < 0 + 4096; omega⟩
    refine (dif_pos hin).trans ?_
    unfold poolAll
    rw [show pt0 (y 0) = t from Fin.ext e]
    congr 1
    funext a
    apply Fin.ext
    have ho : ∀ a : Fin 3, (Rect.unitLocal (s := S16x4x4096) (off := k0_off1 (grid0.coords t)) (size := S1x4x4096.size) y hin a).val
        = (y a).val - k0_off1 (grid0.coords t) a := fun a => rfl
    refine (ho a).trans ?_
    rw [k0_off1_eq, coord0]
    fin_cases a
    · show (y 0).val - t.val = 0; omega
    · show (y 1).val - 0 = (y 1).val; omega
    · show (y 2).val - 0 = (y 2).val; omega
  · have hout : ¬ ∀ a : Fin 3, k0_off1 (grid0.coords t) a ≤ (y a).val ∧ (y a).val < k0_off1 (grid0.coords t) a + S1x4x4096.size a := by
      rw [k0_off1_eq, coord0]
      intro hall
      have := hall 0
      have a1 : t.val ≤ (y 0).val := this.1
      have a2 : (y 0).val < t.val + 1 := this.2
      omega
    refine (dif_neg hout).trans ?_
    exact h y (by omega)

/-- At a point before the last the attention's window is idle. -/
theorem idle6_pos (t : Fin cfg0.N) (h : t.val ≠ 15) : cfg0.idle 6 (cfg0.grid.coords t) = true := by
  have hc : ¬ k0_cond1 (grid0.coords t) = 1#1 := fun e => h ((cond0 t).mp e)
  show (!(k0_cond1 (grid0.coords t) == 1#1)) = true
  rw [beq_false_of_ne hc]
  rfl

/-- At the last point it is not. -/
theorem idle6_neg (t : Fin cfg0.N) (h : t.val = 15) : cfg0.idle 6 (cfg0.grid.coords t) = false := by
  show (!(k0_cond1 (grid0.coords t) == 1#1)) = false
  rw [(cond0 t).mpr h]
  rfl

/-- The attention is written back at the last point alone. -/
theorem flush6_neg (t : Fin cfg0.N) (h : t.val ≠ 15) : (cfg0.win 6).flush t = false := by
  have hN : t.val < 16 := lt_of_lt_of_eq t.isLt N_0
  rw [← Bool.not_eq_true, flush0_6]
  omega

/-- The body obligation of the first pallas_call. -/
theorem body0 (c : Dev nD) : BodyObligation (dat0 V c) (defs₀ (F := F)) Variants.none () Set.univ := fun t => by
  rw [bigSep_W0, bigSep_W0, row0]
  rw [show (dat0 V c).Φ t.castSucc = Phi0 V c t.val (Nat.le_of_lt t.isLt) from Dat.Φ_castSucc (Phi0 V c) t,
    show (dat0 V c).Φ t.succ = Phi0 V c (t.val + 1) t.isLt from rfl,
    show (dat0 V c).owesAt () t.succ = (dat0 V c).owesAt () t.castSucc from rfl]
  unfold Phi0
  by_cases h : t.val = 15
  · rw [idle6_neg t h]
    iintro ⟨⟨⟨%S, %hS, HS⟩, Hr⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [before0_0, before0_1, before0_2, before0_3, before0_4, before0_5]
    iapply (attn_run c (grid0.coords t) (st0_0 t) _ (st0_1 t) _ (st0_2 t) _ (st0_3 t) _ (st0_4 t) _ (st0_5 t) _ (st0_6 t) _ (st0_7 t) _ (st0_8 t) _
      (Memref.whole cc0_scratch0) _ (blk0 V c 0 t) (blk0 V c 1 t) (blk0 V c 2 t) (blk0 V c 3 t) (blk0 V c 4 t) (blk0 V c 5 t) S ((cond0 t).mpr h) Set.univ _)
    isplitl [H0]; · iexact H0
    isplitl [H1]; · iexact H1
    isplitl [H2]; · iexact H2
    isplitl [H3]; · iexact H3
    isplitl [H4]; · iexact H4
    isplitl [H5]; · iexact H5
    isplitl [H6]
    · iexists _
      iexact H6
    isplitl [H7]
    · iexists _
      iexact H7
    isplitl [H8]
    · iexists _
      iexact H8
    isplitl [HS]; · iexact HS
    have hf := filled_put V c t S hS
    have hS' : VecWindow.put S (k0_off1 (grid0.coords t)) S1x4x4096.size (poolOf (blk0 V c 0 t) (blk0 V c 1 t) (blk0 V c 2 t)) = poolAll V c :=
      funext fun y => hf y (by have : (y 0).val < 16 := (y 0).isLt; omega)
    rw [hS']
    iintro ⟨H0, H1, H2, H3, H4, H5, H6, H7, H8, HS⟩
    isplitl [HS Hr]
    · isplitl [HS]
      · iexists _
        isplitr
        rotate_left
        · iexact HS
        · ipureintro
          exact fun _ _ => rfl
      · iexact Hr
    isplitl [Howes]; · iexact Howes
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [idle6_pos t h, flush6_neg t h]
    iintro ⟨⟨⟨%S, %hS, HS⟩, Hr⟩, Howes, ⟨%d0, H0⟩, ⟨%d1, H1⟩, ⟨%d2, H2⟩, ⟨%d3, H3⟩, ⟨%d4, H4⟩, ⟨%d5, H5⟩, H6, ⟨%d7, H7⟩, ⟨%d8, H8⟩⟩
    rw [before0_0, before0_1, before0_2, before0_3, before0_4, before0_5]
    iapply (pool_run c (grid0.coords t) (st0_0 t) _ (st0_1 t) _ (st0_2 t) _ (st0_3 t) _ (st0_4 t) _ (st0_5 t) _ (st0_6 t) _ (st0_7 t) _ (st0_8 t) _
      (Memref.whole cc0_scratch0) _ (blk0 V c 0 t) (blk0 V c 1 t) (blk0 V c 2 t) S (fun e => h ((cond0 t).mp e)) Set.univ _)
    isplitl [H0]; · iexact H0
    isplitl [H1]; · iexact H1
    isplitl [H2]; · iexact H2
    isplitl [H7]
    · iexists _
      iexact H7
    isplitl [H8]
    · iexists _
      iexact H8
    isplitl [HS]; · iexact HS
    iintro ⟨H0, H1, H2, H7, H8, HS⟩
    isplitl [HS Hr]
    · isplitl [HS]
      · iexists _
        isplitr
        rotate_left
        · iexact HS
        · ipureintro
          exact filled_put V c t S hS
      · iexact Hr
    isplitl [Howes]; · iexact Howes
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- What no window of the region stages, at its start: the scratch at anything is the invariant before the first point. -/
theorem in0 (c : Dev nD) : (Pipeline.scopedRest (Ix := Unit) (Name := ℕ) (U := UR sig nD τ) (Lvl := ℕ) (Val := Elt F) spec0 c : sProp 𝕄) ⊢ (dat0 V c).Φ 0 := by
  rw [scopedRest0_eq, show (dat0 V c).Φ 0 = Phi0 V c 0 (Nat.zero_le _) from rfl]
  unfold Phi0 rest0
  iintro ⟨⟨%f, Hs⟩, Hr⟩
  isplitl [Hs]
  · iexists f
    isplitr
    · ipureintro
      exact fun y hy => absurd hy (Nat.not_lt_zero _)
    · rw [owns_whole_eq]
      iexists f
      isplitr
      · ipureintro
        rfl
      · iexact Hs
  · iexact Hr

/-- At its end it is given back. -/
theorem out0 (c : Dev nD) : (dat0 V c).Φ (Fin.last cfg0.N) ⊢ (Pipeline.scopedRest (Ix := Unit) (Name := ℕ) (U := UR sig nD τ) (Lvl := ℕ) (Val := Elt F) spec0 c : sProp 𝕄) := by
  rw [scopedRest0_eq, show (dat0 V c).Φ (Fin.last cfg0.N) = Phi0 V c cfg0.N (Nat.le_refl _) from rfl]
  unfold Phi0 rest0
  simp only [owns_whole_eq]
  iintro ⟨⟨%S, -, %f, -, HS⟩, Hr⟩
  isplitl [HS]
  · iexists f
    iexact HS
  · iexact Hr

end Cert.KernelIdeal.Hand

end
-- ==== Proof.KI.Body1.lean ====
/-
  The second kernel of `@main` (`_apply_kernel`): one run of its body at any grid point, over any whole staging
  memrefs. It loads the features, the mask and the attention rows and stores their combination.
-/
module

public import proofs.«01_k».proof.Proof.Gen.KernelIdeal.Skeleton
public import Idealize.ShloMosaic.Lib.Pipeline.FrameBody
public import Idealize.ShloMosaic.Lib.VecWindow
public import Idealize.ShloMosaic.Lib.WritesUnit
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's resources: the pipeline library's own algebra, one level index, numbered names. -/
local notation "𝕄" => MT nD τ sig Unit (Elt F) ℕ (UR sig nD τ) ℕ

/-- One run of the second kernel's body: from its three operands and any result buffer, the operands come back and the
    result holds the combination of the three. -/
theorem apply_run (c : Dev nD) (i : grid1.Coords)
    (M1 : Memref sig .tc .vmem S1x384x4096 .bf16) (h1 : M1.IsWhole) (M2 : Memref sig .tc .vmem S1x384x1 .f32) (h2 : M2.IsWhole)
    (M3 : Memref sig .tc .vmem S1x2x4096 .f32) (h3 : M3.IsWhole) (M4 : Memref sig .tc .vmem S1x384x4096 .f32) (h4 : M4.IsWhole)
    (X1 : FVec F S1x384x4096 .bf16) (X2 : FVec F S1x384x1 .f32) (X3 : FVec F S1x2x4096 .f32) (E : Set ℕ) (Q : PUnit → sProp 𝕄) :
    iprop(owns (c : Thread nD τ) M1 fullShare X1 ∗ owns (c : Thread nD τ) M2 fullShare X2 ∗ owns (c : Thread nD τ) M3 fullShare X3
        ∗ (∃ d, owns (c : Thread nD τ) M4 fullShare d)
        ∗ (iprop(owns (c : Thread nD τ) M1 fullShare X1 ∗ owns (c : Thread nD τ) M2 fullShare X2 ∗ owns (c : Thread nD τ) M3 fullShare X3
            ∗ owns (c : Thread nD τ) M4 fullShare (k1_pay1 X1 X2 X3)) -∗ Q ⟨⟩))
      ⊢ wp frame (wpE (defs₀ (F := F)) Variants.none c none) E (cc1__apply_kernel i M1 h1 M2 h2 M3 h3 M4 h4) Q := by
  unfold owns
  iintro ⟨⟨%f1, %e1, H1⟩, ⟨%f2, %e2, H2⟩, ⟨%f3, %e3, H3⟩, ⟨%d4, %f4, %e4, H4⟩, Hk⟩
  rw [cc1__apply_kernel_eq_skeleton]
  unfold cc1__apply_kernel_skel
  sl_exec
  sl_step
  iapply Hk
  isplitl [H1]
  · iexists f1
    isplitr
    · ipureintro
      exact e1
    · iexact H1
  isplitl [H2]
  · iexists f2
    isplitr
    · ipureintro
      exact e2
    · iexact H2
  isplitl [H3]
  · iexists f3
    isplitr
    · ipureintro
      exact e3
    · iexact H3
  iexists _
  isplitr
  rotate_left
  · iexact H4
  · ipureintro
    have a1 := (View.readAt_full M1.view f1 inb_S1x384x4096_S1x384x4096_0_0_0).trans e1
    have a2 := (View.readAt_full M2.view f2 inb_S1x384x1_S1x384x1_0_0_0).trans e2
    have a3 := (View.readAt_full M3.view f3 inb_S1x2x4096_S1x2x4096_0_0_0).trans e3
    refine (View.read_writes_full _ _ _ _ _).trans ?_
    exact (congrFun (congrArg₂ k1_pay1 a1 a2) _).trans (congrArg _ a3)

end Cert.KernelIdeal.Hand

end
-- ==== Proof.KI.Region1.lean ====
/-
  The second pallas_call (`_apply_kernel`): its proof data over any contents of the unscoped buffers at entry, and its
  body obligation. Each point combines one batch's features, mask and attention rows.
-/
module

public import proofs.«01_k».proof.Proof.KI.Body1
public import proofs.«01_k».proof.Proof.Gen.KernelIdeal.Launch
public import proofs.«01_k».proof.Proof.Gen.KernelIdeal.Points
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's resources. -/
local notation "𝕄" => MT nD τ sig Unit (Elt F) ℕ (UR sig nD τ) ℕ

-- the contents of every core's unscoped buffers where the region is entered
variable (V : Dev nD → Valuation τ sig (Elt F))

/-- Window `w`'s block at point `t`, as the entry contents have it. -/
def blk1 (c : Dev nD) (w : Fin 4) (t : Fin cfg1.N) : ((cfg1.win w).xblock (cfg1.grid.coords t)).Idx → Elt F (cfg1.win w).elt :=
  ((cfg1.win w).blk t).view.read (Elt F) (V c (Proc.devRef .tc (Pipeline.arrRef spec1 w)))

/-- What each window's buffer holds after the body at point `t`: an input its block, the result the combination. -/
def after1 (c : Dev nD) : (w : Fin 4) → Fin cfg1.N → (cfg1.win w).block.Idx → Elt F (cfg1.win w).elt
  | 0 => fun t => blk1 V c 0 t
  | 1 => fun t => blk1 V c 1 t
  | 2 => fun t => blk1 V c 2 t
  | 3 => fun t => k1_pay1 (blk1 V c 0 t) (blk1 V c 1 t) (blk1 V c 2 t)
  | ⟨_ + 4, h⟩ => absurd h (Nat.not_lt.2 (Nat.le_add_left _ _))

/-- The proof data of the second pallas_call: its invariant is the scoped buffers it does not stage. -/
def dat1 (c : Dev nD) : Dat τ (Elt F) Unit ℕ (UR sig nD τ) ℕ cfg1 c where
  A w := V c (Proc.devRef .tc (Pipeline.arrRef spec1 w))
  after := after1 V c
  Φ _ := Pipeline.scopedRest (Ix := Unit) (Name := ℕ) (U := UR sig nD τ) (Lvl := ℕ) (Val := Elt F) spec1 c
  q _ := fullShare
  owed _ := 0

/-- The kernel's row of the body table at point `t`. -/
theorem row1 (t : Fin cfg1.N) : defs₀ (F := F) .tc cfg1.body (cfg1.bodyArgs t (cfg1.slots t)) = bodyAt1 t := by
  unfold defs₀
  rw [Defs.onTc_tc]

/-- Before a grid point of the second call, the staging buffer of window 0 holds the block of the features. -/
theorem before1_0 (c : Dev nD) (t : Fin cfg1.N) (d) : (dat1 V c).before 0 t d = blk1 V c 0 t :=
  ((dat1 V c).before_in_eq_fetched 0 rfl (fun _ => rfl) (fun _ _ _ => rfl) (fun _ => rfl) t d).trans rfl
/-- Before a grid point of the second call, the staging buffer of window 1 holds the block of the mask. -/
theorem before1_1 (c : Dev nD) (t : Fin cfg1.N) (d) : (dat1 V c).before 1 t d = blk1 V c 1 t :=
  ((dat1 V c).before_in_eq_fetched 1 rfl (fun _ => rfl) (fun _ _ _ => rfl) (fun _ => rfl) t d).trans rfl
/-- Before a grid point of the second call, the staging buffer of window 2 holds the block of the attention. -/
theorem before1_2 (c : Dev nD) (t : Fin cfg1.N) (d) : (dat1 V c).before 2 t d = blk1 V c 2 t :=
  ((dat1 V c).before_in_eq_fetched 2 rfl (fun _ => rfl) (fun _ _ _ => rfl) (fun _ => rfl) t d).trans rfl

/-- The body obligation of the second pallas_call. -/
theorem body1 (c : Dev nD) : BodyObligation (dat1 V c) (defs₀ (F := F)) Variants.none () Set.univ := fun t => by
  rw [bigSep_W1, bigSep_W1, row1]
  rw [show (dat1 V c).Φ t.castSucc = Pipeline.scopedRest (Ix := Unit) (Name := ℕ) (U := UR sig nD τ) (Lvl := ℕ) (Val := Elt F) spec1 c from rfl,
    show (dat1 V c).Φ t.succ = Pipeline.scopedRest (Ix := Unit) (Name := ℕ) (U := UR sig nD τ) (Lvl := ℕ) (Val := Elt F) spec1 c from rfl,
    show (dat1 V c).owesAt () t.succ = (dat1 V c).owesAt () t.castSucc from rfl]
  iintro ⟨Hr, Howes, ⟨%d0, H0⟩, ⟨%d1, H1⟩, ⟨%d2, H2⟩, ⟨%d3, H3⟩⟩
  rw [before1_0, before1_1, before1_2]
  iapply (apply_run c (grid1.coords t) (st1_0 t) _ (st1_1 t) _ (st1_2 t) _ (st1_3 t) _ (blk1 V c 0 t) (blk1 V c 1 t) (blk1 V c 2 t) Set.univ _)
  isplitl [H0]; · iexact H0
  isplitl [H1]; · iexact H1
  isplitl [H2]; · iexact H2
  isplitl [H3]
  · iexists _
    iexact H3
  iintro ⟨H0, H1, H2, H3⟩
  isplitl [Hr]; · iexact Hr
  isplitl [Howes]; · iexact Howes
  isplitl [H0]; · iexact H0
  isplitl [H1]; · iexact H1
  isplitl [H2]; · iexact H2
  iexact H3

/-- The invariant is what no window of the region stages. -/
theorem in1 (c : Dev nD) : (Pipeline.scopedRest (Ix := Unit) (Name := ℕ) (U := UR sig nD τ) (Lvl := ℕ) (Val := Elt F) spec1 c : sProp 𝕄) ⊢ (dat1 V c).Φ 0 := by
  rw [show (dat1 V c).Φ 0 = Pipeline.scopedRest (Ix := Unit) (Name := ℕ) (U := UR sig nD τ) (Lvl := ℕ) (Val := Elt F) spec1 c from rfl]

/-- After its last grid point the second call gives back the scoped buffers. -/
theorem out1 (c : Dev nD) : (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = Pipeline.scopedRest (Ix := Unit) (Name := ℕ) (U := UR sig nD τ) (Lvl := ℕ) (Val := Elt F) spec1 c from rfl]

end Cert.KernelIdeal.Hand

end
-- ==== Proof.KI.Run.lean ====
/-
  The whole program: the host stretch, the first pallas_call, the second. The two regions' records over every unscoped
  buffer, the contents between the items, and the run: the arguments as launched, the two results as the proof data
  have them, every semaphore at zero.
-/
module

public import proofs.«01_k».proof.Proof.KI.Region0
public import proofs.«01_k».proof.Proof.KI.Region1
public import proofs.«01_k».proof.Proof.Gen.KernelIdeal.Regions
public import Idealize.ShloMosaic.Lib.Pipeline.RegionArraysS
public import proofs.«01_k».proof.Proof.Gen.KernelIdeal.Points
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

/-- The proof's resources. -/
local notation "𝕄" => MT nD τ sig Unit (Elt F) ℕ (UR sig nD τ) ℕ

variable (m : (ℓ : Loc nD τ sig) → Buf (Elt F) ℓ)

/-- Core `c`'s unscoped buffers after the first pallas_call. -/
def U2 (c : Dev nD) : Valuation τ sig (Elt F) := Pipeline.afterRegion (dat0 (V1 m) c) (V1 m c)

/-- Core `c`'s unscoped buffers after the second. -/
def U3 (c : Dev nD) : Valuation τ sig (Elt F) := Pipeline.afterRegion (dat1 (U2 m) c) (U2 m c)

/-- The proof data of both. -/
def pdats : (p : Fin 2) → (c : Dev nD) → Dat τ (Elt F) Unit ℕ (UR sig nD τ) ℕ (cfgs p) c
  | ⟨0, _⟩ => dat0 (V1 m)
  | ⟨1, _⟩ => dat1 (U2 m)
  | ⟨_ + 2, h⟩ => absurd h (Nat.not_lt.2 (Nat.le_add_left _ _))

/-- No core owes another anything: no level is assigned but the staging cells' own. -/
abbrev Lv : GSem nD τ sig → Finset Unit := fun g => if g.1.2 = .tc then Finset.univ else ∅
/-- One level serves every counter. -/
abbrev lvl : GSem nD τ sig → Unit → ℕ := fun _ _ => 0

/-- Every wait is at the one level. -/
theorem cut (p : Fin 2) : Pipeline.LevelCut (pcfgs (F := F)) adm () Lv lvl p (fun _ => 0) (fun _ => 0) where
  hι c w s := by simp [Lv]
  hιb c w s := Nat.le_refl _
  hD c g i h := absurd h (Nat.not_lt_zero _)

set_option backward.isDefEq.respectTransparency.types false in
/-- The first region's record. -/
def R0 : RegionSeg (pcfgs (F := F)) adm (pdats m) () defs₀ Variants.none Lv lvl 0 :=
  RegionSeg.ofHeldIn (pcfgs (F := F)) adm (pdats m) () defs₀ Variants.none Lv lvl 0 (fun _ => 0) (Pipeline.ucRefs τ sig)
    (fun _ => BI.emp) (fun _ => BI.emp) launch0.toP rfl (fun c => (body0 (V1 m) c).loose) (fun _ _ => rfl) (fun _ => rfl)
    (fun c w => (dat0 (V1 m) c).share_full (fun _ => rfl) w)
    (fun c => Laws.sep_emp.1.trans (in0 (V1 m) c)) (fun c => (out0 (V1 m) c).trans Laws.sep_emp.2) (fun _ => 0) (cut 0) (fun _ => BI.emp)
    (V1 m) (fun c w => rfl)

set_option backward.isDefEq.respectTransparency.types false in
/-- The second region's record. -/
def R1 : RegionSeg (pcfgs (F := F)) adm (pdats m) () defs₀ Variants.none Lv lvl 1 :=
  RegionSeg.ofHeldIn (pcfgs (F := F)) adm (pdats m) () defs₀ Variants.none Lv lvl 1 (fun _ => 0) (Pipeline.ucRefs τ sig)
    (fun _ => BI.emp) (fun _ => BI.emp) launch1.toP rfl (fun c => (body1 (U2 m) c).loose) (fun _ _ => rfl) (fun _ => rfl)
    (fun c w => (dat1 (U2 m) c).share_full (fun _ => rfl) w)
    (fun c => Laws.sep_emp.1.trans (in1 (U2 m) c)) (fun c => (out1 (U2 m) c).trans Laws.sep_emp.2) (fun _ => 0) (cut 1) (fun _ => BI.emp)
    (U2 m) (fun c w => rfl)

/-- The first call's arrays are among the unscoped buffers. -/
theorem sub0 : Pipeline.arrRefs (τ := τ) (pcfgs (F := F) 0).spec ⊆ Pipeline.ucRefs τ sig := Pipeline.arrRefs_sub_ucRefs spec0 (by decide)
/-- The second call's arrays are among the unscoped buffers. -/
theorem sub1 : Pipeline.arrRefs (τ := τ) (pcfgs (F := F) 1).spec ⊆ Pipeline.ucRefs τ sig := Pipeline.arrRefs_sub_ucRefs spec1 (by decide)

set_option backward.isDefEq.respectTransparency.types false in
/-- The thread state before the first region is its entry. -/
theorem pre0 (c : Dev nD) :
    iprop(StableHlo.held (c : Thread nD τ) (Pipeline.ucRefs τ sig) (V1 m c) ∗ ((∃ Wd, owes (c : Thread nD τ) (0 : CellTallies nD τ sig Unit) Wd) ∗ BI.emp ∗ BI.emp))
      ⊢ ((R0 m).pre c : sProp 𝕄) := by
  unfold R0
  exact RegionSeg.ofHeldIn_pre (pcs := pcfgs (F := F)) (a := adm) (pdats := pdats m) (ι := ()) (𝒱₀ := Variants.none) (p := 0) (D := fun _ => 0) (W := V1 m) (R := fun _ => BI.emp) (X := fun _ => BI.emp) sub0 c

set_option backward.isDefEq.respectTransparency.types false in
/-- The first region's exit is the thread state after it. -/
theorem post0 (c : Dev nD) : ((R0 m).post c : sProp 𝕄)
    ⊢ iprop(StableHlo.held (c : Thread nD τ) (Pipeline.ucRefs τ sig) (U2 m c) ∗ ((∃ Wd, owes (c : Thread nD τ) (0 : CellTallies nD τ sig Unit) Wd) ∗ BI.emp ∗ BI.emp)) := by
  unfold R0 U2
  exact RegionSeg.ofHeldIn_post (pcs := pcfgs (F := F)) (a := adm) (pdats := pdats m) (ι := ()) (𝒱₀ := Variants.none) (p := 0) (D := fun _ => 0) (W := V1 m) (R := fun _ => BI.emp) (Y := fun _ => BI.emp) sub0 c

set_option backward.isDefEq.respectTransparency.types false in
/-- The thread state before the second region is its entry. -/
theorem pre1 (c : Dev nD) :
    iprop(StableHlo.held (c : Thread nD τ) (Pipeline.ucRefs τ sig) (U2 m c) ∗ ((∃ Wd, owes (c : Thread nD τ) (0 : CellTallies nD τ sig Unit) Wd) ∗ BI.emp ∗ BI.emp))
      ⊢ ((R1 m).pre c : sProp 𝕄) := by
  unfold R1
  exact RegionSeg.ofHeldIn_pre (pcs := pcfgs (F := F)) (a := adm) (pdats := pdats m) (ι := ()) (𝒱₀ := Variants.none) (p := 1) (D := fun _ => 0) (W := U2 m) (R := fun _ => BI.emp) (X := fun _ => BI.emp) sub1 c

set_option backward.isDefEq.respectTransparency.types false in
/-- The second region's exit is the thread state after it. -/
theorem post1 (c : Dev nD) : ((R1 m).post c : sProp 𝕄)
    ⊢ iprop(StableHlo.held (c : Thread nD τ) (Pipeline.ucRefs τ sig) (U3 m c) ∗ ((∃ Wd, owes (c : Thread nD τ) (0 : CellTallies nD τ sig Unit) Wd) ∗ BI.emp ∗ BI.emp)) := by
  unfold R1 U3
  exact RegionSeg.ofHeldIn_post (pcs := pcfgs (F := F)) (a := adm) (pdats := pdats m) (ι := ()) (𝒱₀ := Variants.none) (p := 1) (D := fun _ => 0) (W := U2 m) (R := fun _ => BI.emp) (Y := fun _ => BI.emp) sub1 c

/-- What rides beside the buffers between the items: the core owes nothing. -/
abbrev Rst : Fin 3 → Dev nD → sProp 𝕄 := fun _ c =>
  iprop((∃ Wd, owes (c : Thread nD τ) (0 : CellTallies nD τ sig Unit) Wd) ∗ BI.emp ∗ BI.emp)

/-- What the run leaves. -/
def Final (r : PUnit × MemSt nD τ sig (Elt F)) : Prop :=
  (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_v4_0) = (dat0 (V1 m) c).arrAt 6 cfg0.N
    ∧ r.2.mem ((c.tc : Thread nD τ).loc main_v5) = (dat1 (U2 m) c).arrAt 3 cfg1.N)
  ∧ r.2.sem = fun _ => 0

/-- The first region keeps what it does not write. -/
theorem U2_of (c : Dev nD) (r : Ref sig .tc) (h : ∀ w, Pipeline.arrRef spec0 w = r → (cfg0.win w).isOut = false) :
    U2 m c (Proc.devRef .tc r) = V1 m c (Proc.devRef .tc r) :=
  Pipeline.afterRegion_keeps (dat0 (V1 m) c) (V1 m c) winFacts0.arr_inj (fun _ => rfl) r h

/-- The second keeps what it does not write. -/
theorem U3_of (c : Dev nD) (r : Ref sig .tc) (h : ∀ w, Pipeline.arrRef spec1 w = r → (cfg1.win w).isOut = false) :
    U3 m c (Proc.devRef .tc r) = U2 m c (Proc.devRef .tc r) :=
  Pipeline.afterRegion_keeps (dat1 (U2 m) c) (U2 m c) winFacts1.arr_inj (fun _ => rfl) r h

/-- A reference written by nothing is as launched. -/
theorem U3_arg (c : Dev nD) (r : Ref sig .tc) (h0 : r ∉ hostOps0_W) (h1 : ∀ w, Pipeline.arrRef spec0 w = r → (cfg0.win w).isOut = false)
    (h2 : ∀ w, Pipeline.arrRef spec1 w = r → (cfg1.win w).isOut = false) :
    U3 m c (Proc.devRef .tc r) = m ((c.tc : Thread nD τ).loc r) :=
  (U3_of m c r h2).trans <| (U2_of m c r h1).trans <| (V1_of m c r h0).trans rfl

/-- The first result after the run. -/
theorem U3_v4_0 (c : Dev nD) : U3 m c (Proc.devRef .tc main_v4_0) = (dat0 (V1 m) c).arrAt 6 cfg0.N :=
  (U3_of m c main_v4_0 (by decide)).trans (Pipeline.afterRegion_arr (dat0 (V1 m) c) (V1 m c) winFacts0.arr_inj 6)

/-- The second. -/
theorem U3_v5 (c : Dev nD) : U3 m c (Proc.devRef .tc main_v5) = (dat1 (U2 m) c).arrAt 3 cfg1.N :=
  Pipeline.afterRegion_arr (dat1 (U2 m) c) (U2 m c) winFacts1.arr_inj 3

/-- At launch each core holds its unscoped buffers and owes nothing. -/
theorem launch_start (ρ : Dev nD → PrngReg) :
    (bigSep Finset.univ fun c : Dev nD => (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp) : sProp 𝕄))
    ⊢ bigSep Finset.univ fun c : Dev nD => (iprop(StableHlo.held (c : Thread nD τ) (Pipeline.ucRefs τ sig) (V0 m c) ∗ Rst 0 c) : sProp 𝕄) :=
  bigSep_mono fun c _ => by
    show (_ : sProp 𝕄) ⊢ _
    rw [← Pipeline.unscopedBufs_held (Ix := Unit) (Name := ℕ) (U := UR sig nD τ) (Lvl := ℕ) c (V0 m c)]
    iintro ⟨Hb, -, HO, -, -, -⟩
    isplitl [Hb]
    · iexact Hb
    isplitl [HO]
    · iexists _
      iexact HO
    isplitl []
    · iempintro
    · iempintro

set_option backward.isDefEq.respectTransparency.types false in
/-- THE RUN, from any memory with every semaphore at zero. -/
theorem run (ρ : Dev nD → PrngReg) : θ_run defs (onTc (τ := τ) (main (F := F))) ⟨m, fun _ => 0, ρ⟩ (Final m) := by
  refine Pipeline.θ_run_regions_kit_dev_sems (pcfgs (F := F)) adm (pdats m) () cellOf_inj emb₁ defs₀ Variants.none Lv lvl m ρ main
    (segs m Variants.none Lv lvl Rst () (pdats m) (R0 m) (R1 m))
    (fun c Q => by
      rewrite [main_chain c, Seg.run_eq_chain,
        show (segs m Variants.none Lv lvl Rst () (pdats m) (R0 m) (R1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide)
    (fun _ => 0) (fun g hg => if_neg hg) (fun _ => BI.emp)
    (initOf (Pipeline.cells cfgs cellOf_inj) (Pipeline.launchToks cfgs cellOf_inj)) ?_
    (T₀ := fun c => iprop(StableHlo.held (c : Thread nD τ) (Pipeline.ucRefs τ sig) (V0 m c) ∗ Rst 0 c))
    (Tₙ := fun c => StableHlo.held (c : Thread nD τ) (Pipeline.ucRefs τ sig) (U3 m c))
    (hch := fun c => ⟨.rfl, pre0 m c, (post0 m c).trans (pre1 m c), (post1 m c).trans (sep_mono .rfl ?_)⟩)
    (hinit := ?_) (QY := fun c s =>
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_v4_0) = (dat0 (V1 m) c).arrAt 6 cfg0.N
      ∧ s.mem ((c.tc : Thread nD τ).loc main_v5) = (dat1 (U2 m) c).arrAt 3 cfg1.N)
    (hfin := fun c s' => ?_) (hQ := fun _ h hz => ⟨h, funext fun g => hz g (.inr (regions_no_unscoped g.2))⟩)
  · iintro Hu
    imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    · iapply (show (iprop(BI.emp) : sProp 𝕄) ⊢ bigSep Finset.univ (fun _ : Dev nD => (BI.emp : sProp 𝕄)) from by
        rw [BI.bigSep_emp_const])
      iempintro
  · iintro ⟨HO, -, -⟩
    iexact HO
  · iintro ⟨H, -⟩
    imodintro
    iapply (launch_start m ρ)
    iexact H
  · unfold StableHlo.held
    iintro ⟨Hh, HSI⟩
    ihave Hr := (pointsTo_read_all (Pipeline.ucRefs τ sig) (fun b => ((c : Thread nD τ).1, b)) (U3 m c) s') $$ [Hh HSI]
    · isplitl [Hh] <;> iassumption
    icases Hr with ⟨%h, HSI⟩
    imodintro
    isplitr
    · ipureintro
      have hr : ∀ r : Ref sig .tc, r.isScoped = false → s'.mem.mem ((c.tc : Thread nD τ).loc r) = U3 m c (Proc.devRef .tc r) := fun r hs =>
        h (Proc.devRef .tc r) (Finset.mem_filter.mpr ⟨StableHlo.devRef_mem_tcRefs r, fun h' => Bool.false_ne_true (hs.symm.trans h')⟩)
      exact ⟨(hr main_arg0 rfl).trans (U3_arg m c main_arg0 (by decide) (by decide) (by decide)),
        (hr main_arg1 rfl).trans (U3_arg m c main_arg1 (by decide) (by decide) (by decide)),
        (hr main_arg2 rfl).trans (U3_arg m c main_arg2 (by decide) (by decide) (by decide)),
        (hr main_arg3 rfl).trans (U3_arg m c main_arg3 (by decide) (by decide) (by decide)),
        (hr main_arg4 rfl).trans (U3_arg m c main_arg4 (by decide) (by decide) (by decide)),
        (hr main_v4_0 rfl).trans (U3_v4_0 m c),
        (hr main_v5 rfl).trans (U3_v5 m c)⟩
    · iexact HSI

end Cert.KernelIdeal.Hand

end
-- ==== Proof.V.Model.lean ====
/-
  The mathematics both programs compute, over the extended reals: the channel ranking and its mask, the pooled rows, the
  padded convolution of two rows by seven taps, the normalisation over a whole map, and the gated result.
-/
module

public import Idealize.ShloMosaic.Lib.Pointwise

@[expose] public section

set_option maxRecDepth 16384

noncomputable section

namespace Cert.Model

open Idealize.ShloMosaic

/-- Channel `j` ranks before channel `i`: its weight is greater, or it is equal and `j` is the earlier channel. -/
def Before (c : Fin 384 → EReal) (j i : Fin 384) : Prop := c i < c j ∨ (c j = c i ∧ j < i)

open scoped Classical in
/-- How many channels rank before channel `i`. -/
def rank (c : Fin 384 → EReal) (i : Fin 384) : ℕ := (Finset.univ.filter fun j => Before c j i).card

open scoped Classical in
/-- The mask of the 230 greatest channels. -/
def mask (c : Fin 384 → EReal) (i : Fin 384) : EReal := if rank c i < 230 then 1 else 0

/-- The greatest entry of a column of channels, each weighted by `q`. -/
def peak (q x : Fin 384 → EReal) : EReal := Finset.univ.fold max ⊥ fun c => q c * x c

/-- The sum of a column of channels, each weighted by `q`, times the number `r`. -/
def avg (r : ℝ) (q x : Fin 384 → EReal) : EReal := (∑ c, q c * x c) * (r : EReal)

/-- The four pooled rows of a map of channels `x` under the mask `q`: greatest and mean of the masked channels, greatest
    and mean of the others. -/
def pooled (q : Fin 384 → EReal) (x : Fin 384 → Fin 4096 → EReal) (r : Fin 4) (n : Fin 4096) : EReal :=
  match r with
  | 0 => peak q fun c => x c n
  | 1 => avg (1 / 230) q fun c => x c n
  | 2 => peak (fun c => 1 - q c) fun c => x c n
  | 3 => avg (1 / 154) (fun c => 1 - q c) fun c => x c n

/-- A row of 4096 entries with three zeros on either side. -/
def padR (p : Fin 4096 → EReal) (k : Fin 4102) : EReal :=
  if h : 3 ≤ k.val ∧ k.val < 4099 then p ⟨k.val - 3, by omega⟩ else 0

/-- The convolution of two padded rows by seven taps each, added up. -/
def conv (w : Fin 2 → Fin 7 → EReal) (p0 p1 : Fin 4096 → EReal) (n : Fin 4096) : EReal :=
  ∑ k : Fin 7, (w 0 k * padR p0 ⟨k.val + n.val, by omega⟩ + w 1 k * padR p1 ⟨k.val + n.val, by omega⟩)

/-- The mean of a map over all its entries. -/
def mean (y : Fin 16 → Fin 4096 → EReal) : EReal :=
  Ideal.div (∑ b, ∑ n, y b n) (Ideal.ofBits .f32 0x47800000#32)

/-- The variance of a map over all its entries. -/
def var (y : Fin 16 → Fin 4096 → EReal) : EReal :=
  Ideal.div (∑ b, ∑ n, (y b n - mean y) * (y b n - mean y)) (Ideal.ofBits .f32 0x47800000#32)

/-- The activation of a map: normalised, scaled and shifted, clamped below at zero, and put through the logistic. -/
def act (g be : EReal) (y : Fin 16 → Fin 4096 → EReal) (b : Fin 16) (n : Fin 4096) : EReal :=
  Ideal.logistic (max ((y b n - mean y) * Ideal.rsqrt (var y + Ideal.ofBits .f32 0x3727C5AC#32) * g + be) 0)

/-- The attention of the masked channels (`r = 0`, pooled rows 0 and 1) or of the others (`r = 1`, pooled rows 2 and 3). -/
def attn (x : Fin 16 → Fin 384 → Fin 4096 → EReal) (c : Fin 16 → Fin 384 → EReal) (w : Fin 2 → Fin 7 → EReal) (g be : EReal)
    (r : Fin 2) (b : Fin 16) (n : Fin 4096) : EReal :=
  match r with
  | 0 => act g be (fun b n => conv w (pooled (mask (c b)) (x b) 0) (pooled (mask (c b)) (x b) 1) n) b n
  | 1 => act g be (fun b n => conv w (pooled (mask (c b)) (x b) 2) (pooled (mask (c b)) (x b) 3) n) b n

/-- The gated features: each feature times the attention that its channel's mask selects. -/
def gated (x : Fin 16 → Fin 384 → Fin 4096 → EReal) (c : Fin 16 → Fin 384 → EReal) (w : Fin 2 → Fin 7 → EReal) (g be : EReal)
    (b : Fin 16) (i : Fin 384) (n : Fin 4096) : EReal :=
  x b i n * (mask (c b) i * attn x c w g be 0 b n + (1 - mask (c b) i) * attn x c w g be 1 b n)

end Cert.Model
end
end
-- ==== Proof.V.Num.lean ====
/-
  Words and constants read over the extended reals: truth bits as 0 and 1, the counts the programs compare with and divide
  by, finite sums of real numbers.
-/
module

public import proofs.«01_k».proof.Proof.V.Model
public import Idealize.ShloMosaic.Lib.Pointwise
public import Idealize.ShloMosaic.Lib.WordCmp

@[expose] public section

set_option maxRecDepth 16384

noncomputable section

namespace Cert.Model

open Idealize.ShloMosaic

/-- A truth bit widened and read as a number is 1 or 0. -/
theorem bit_value (b : Bool) : (FloatOps.sitofp .f32 (BitVec.setWidth 32 (BitVec.ofBool b)) : Ideal .f32) = if b then 1 else 0 := by
  cases b
  · show ((((BitVec.setWidth 32 (BitVec.ofBool false)).toInt : ℝ)) : EReal) = 0
    have : (BitVec.setWidth 32 (BitVec.ofBool false)).toInt = 0 := by decide
    rw [this]; simp
  · show ((((BitVec.setWidth 32 (BitVec.ofBool true)).toInt : ℝ)) : EReal) = 1
    have : (BitVec.setWidth 32 (BitVec.ofBool true)).toInt = 1 := by decide
    rw [this]; simp

/-- The word of 383. -/
theorem w383 : Ideal.ofBits .f32 0x43BF8000#32 = ((383 : ℝ) : EReal) := by
  simp [Ideal.ofBits, Ideal.ieee]
  rw [← EReal.coe_mul]
  norm_num

/-- The word of 230. -/
theorem w230 : Ideal.ofBits .f32 0x43660000#32 = ((230 : ℝ) : EReal) := by
  simp [Ideal.ofBits, Ideal.ieee]
  rw [← EReal.coe_mul]
  norm_num

/-- The word of 154. -/
theorem w154 : Ideal.ofBits .f32 0x431A0000#32 = ((154 : ℝ) : EReal) := by
  simp [Ideal.ofBits, Ideal.ieee]
  rw [← EReal.coe_mul]
  norm_num

/-- The word of 384. -/
theorem w384 : Ideal.ofBits .f32 0x43C00000#32 = ((384 : ℝ) : EReal) := by
  simp [Ideal.ofBits, Ideal.ieee]
  rw [← EReal.coe_mul]
  norm_num

/-- The word of 65536. -/
theorem w65536 : Ideal.ofBits .f32 0x47800000#32 = ((65536 : ℝ) : EReal) := by
  simp [Ideal.ofBits, Ideal.ieee]
  rw [← EReal.coe_mul]
  norm_num

/-- The stability constant is a positive real number. -/
theorem weps : ∃ e : ℝ, 0 < e ∧ Ideal.ofBits .f32 0x3727C5AC#32 = (e : EReal) := by
  refine ⟨2748779 / 274877906944, by norm_num, ?_⟩
  simp [Ideal.ofBits, Ideal.ieee]
  rw [← EReal.coe_mul]
  norm_num

/-- The word of minus infinity. -/
theorem wbot : Ideal.ofBits .f32 0xFF800000#32 = ⊥ := by
  simp [Ideal.ofBits, Ideal.ieee]

/-- A finite sum of real numbers, each read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

open scoped Classical in
/-- A sum of indicators is the count. -/
theorem sum_indicator {ι : Type} (s : Finset ι) (p : ι → Prop) :
    (∑ i ∈ s, (if p i then (1 : EReal) else 0)) = (((s.filter p).card : ℝ) : EReal) := by
  have : ∀ i, (if p i then (1 : EReal) else 0) = (((if p i then 1 else 0 : ℝ)) : EReal) := fun i => by split <;> simp
  simp only [this]
  rw [← coe_sum, Finset.sum_boole]

/-- The integer word zero read as a number. -/
theorem int_zero : (FloatOps.sitofp .f32 (0#32 : BitVec 32) : Ideal .f32) = (0 : EReal) := by
  show ((((0#32 : BitVec 32).toInt : ℝ)) : EReal) = 0
  simp

/-- A square is not negative. -/
theorem square_nonneg (z : EReal) : 0 ≤ z * z := by
  induction z with
  | bot => simp
  | top => simp
  | coe r => rw [← EReal.coe_mul]; exact EReal.coe_nonneg.2 (mul_self_nonneg r)

/-- The variance is not negative. -/
theorem var_nonneg (y : Fin 16 → Fin 4096 → EReal) : 0 ≤ var y := by
  unfold var
  rw [w65536, Ideal.div_coe (by norm_num : (65536 : ℝ) ≠ 0)]
  refine mul_nonneg (Finset.sum_nonneg fun b _ => Finset.sum_nonneg fun n _ => square_nonneg _) ?_
  exact EReal.coe_nonneg.2 (by norm_num)

/-- Dividing by the root of a positive number is multiplying by the reciprocal root. -/
theorem div_sqrt (a v : EReal) (hv : 0 < v) : Ideal.div a (Ideal.sqrt v) = a * Ideal.rsqrt v := by
  induction v with
  | bot => exact absurd hv (by simp)
  | top =>
    rw [show Ideal.sqrt (⊤ : EReal) = ⊤ from rfl, show Ideal.rsqrt (⊤ : EReal) = 0 from rfl]
    simp [Ideal.div]
  | coe r =>
    have hr : 0 < r := EReal.coe_pos.1 hv
    have hs : Real.sqrt r ≠ 0 := (Real.sqrt_pos.2 hr).ne'
    have e1 : Ideal.sqrt (r : EReal) = ((Real.sqrt r : ℝ) : EReal) := (show _ = if r < 0 then ⊥ else ((Real.sqrt r : ℝ) : EReal) from rfl).trans (if_neg (not_lt.2 hr.le))
    have e2 : Ideal.rsqrt (r : EReal) = (((Real.sqrt r)⁻¹ : ℝ) : EReal) :=
      (show _ = if r < 0 then ⊥ else if r = 0 then ⊤ else (((Real.sqrt r)⁻¹ : ℝ) : EReal) from rfl).trans
        ((if_neg (not_lt.2 hr.le)).trans (if_neg hr.ne'))
    rw [e1, e2, Ideal.div_coe hs, one_div]

/-- The activation with the root divided by: the normalised map, scaled, shifted, clamped below at zero, through the logistic. -/
theorem act_eq_div (g be : EReal) (y : Fin 16 → Fin 4096 → EReal) (b : Fin 16) (n : Fin 4096) :
    act g be y b n = Ideal.div 1 (1 + Ideal.exp (-max (Ideal.div (y b n - mean y)
      (Ideal.sqrt (var y + Ideal.ofBits .f32 0x3727C5AC#32)) * g + be) 0)) := by
  obtain ⟨e, he, hw⟩ := weps
  have hp : 0 < var y + Ideal.ofBits .f32 0x3727C5AC#32 := by
    rw [hw]
    exact lt_of_lt_of_le (EReal.coe_pos.2 he) (le_add_of_nonneg_left (var_nonneg y))
  rw [div_sqrt _ _ hp]
  rfl

/-- A sum divided by 384, multiplied by 384 and divided by another count is the sum times that count's reciprocal. -/
theorem count_cancel (s : EReal) (k : ℝ) (hk : k ≠ 0) :
    Ideal.div (Ideal.div s ((384 : ℝ) : EReal) * ((384 : ℝ) : EReal)) (k : EReal) = s * ((1 / k : ℝ) : EReal) := by
  rw [Ideal.div_coe hk, Ideal.div_coe (by norm_num : (384 : ℝ) ≠ 0), mul_assoc s, ← EReal.coe_mul]
  norm_num

end Cert.Model
end
end
-- ==== Proof.V.Rank.lean ====
/-
  The stable sort of a row by its entries, greatest first: the first 230 places are those of the channels that fewer than
  230 channels rank before.
-/
module

public import proofs.«01_k».proof.Proof.V.Model
public import Idealize.ShloMosaic.Lib.SortPrefix
public import Idealize.ShloMosaic.Lib.SortFacts
public import Idealize.ShloMosaic.Lib.Pointwise

@[expose] public section

set_option maxRecDepth 16384

noncomputable section

namespace Cert.Model

open Idealize.ShloMosaic

variable {n : ℕ}

/-- Position `j` goes before position `i`: a greater entry, or an equal entry at an earlier position. -/
def Lex (c : Fin n → EReal) (j i : Fin n) : Prop := c i < c j ∨ (c j = c i ∧ j < i)

/-- No position goes before itself. -/
theorem Lex.irrefl (c : Fin n → EReal) (i : Fin n) : ¬ Lex c i i := by
  rintro (h | ⟨_, h⟩)
  · exact lt_irrefl _ h
  · exact lt_irrefl _ h

/-- Going before is transitive. -/
theorem Lex.trans {c : Fin n → EReal} {i j k : Fin n} (h : Lex c i j) (h' : Lex c j k) : Lex c i k := by
  rcases h with h | ⟨e, h⟩ <;> rcases h' with h' | ⟨e', h'⟩
  · exact .inl (h'.trans h)
  · exact .inl (e' ▸ h)
  · exact .inl (e ▸ h')
  · exact .inr ⟨e.trans e', h.trans h'⟩

/-- Of two positions one goes before the other. -/
theorem Lex.total (c : Fin n → EReal) {i j : Fin n} (h : i ≠ j) : Lex c i j ∨ Lex c j i := by
  rcases lt_trichotomy (c i) (c j) with a | a | a
  · exact .inr (.inl a)
  · rcases lt_or_gt_of_ne h with b | b
    · exact .inl (.inr ⟨a, b⟩)
    · exact .inr (.inr ⟨a.symm, b⟩)
  · exact .inl (.inl a)

/-- Inserting a position that is earlier than everything in a list ordered by `Lex` keeps the list ordered by `Lex`. -/
theorem pairwise_insertBefore_lex (c : Fin n → EReal) (a : Fin n) (l : List (Fin n)) (ha : ∀ b ∈ l, a < b) (hl : l.Pairwise (Lex c)) :
    (insertBefore (fun k k' => decide (c k' < c k)) a l).Pairwise (Lex c) := by
  induction l with
  | nil => exact List.pairwise_singleton _ _
  | cons b l ih =>
    obtain ⟨hb, hl'⟩ := List.pairwise_cons.1 hl
    unfold insertBefore
    by_cases h : c a < c b
    · rw [if_pos (decide_eq_true h)]
      refine List.pairwise_cons.2 ⟨fun x hx => ?_, ih (fun x hx => ha x (List.mem_cons_of_mem _ hx)) hl'⟩
      rcases List.mem_cons.1 ((perm_insertBefore _ a l).mem_iff.1 hx) with rfl | hx
      · exact .inl h
      · exact hb x hx
    · rw [if_neg (by simpa using h)]
      have hab : Lex c a b := by
        rcases lt_or_eq_of_le (not_lt.1 h) with q | q
        · exact .inl q
        · exact .inr ⟨q.symm, ha b List.mem_cons_self⟩
      refine List.pairwise_cons.2 ⟨fun x hx => ?_, hl⟩
      rcases List.mem_cons.1 hx with rfl | hx
      · exact hab
      · exact hab.trans (hb x hx)

/-- The stable sort of an increasing list of positions is ordered by `Lex`. -/
theorem pairwise_stableSort_lex (c : Fin n → EReal) (l : List (Fin n)) (hl : l.Pairwise (· < ·)) :
    (stableSort (fun k k' => decide (c k' < c k)) l).Pairwise (Lex c) := by
  induction l with
  | nil => exact List.Pairwise.nil
  | cons a l ih =>
    obtain ⟨ha, hl'⟩ := List.pairwise_cons.1 hl
    exact pairwise_insertBefore_lex c a _ (fun b hb => ha b ((perm_stableSort _ l).mem_iff.1 hb)) (ih hl')

/-- The sort's places are in the order of `Lex`. -/
theorem sortedFrom_lex (c : Fin n → EReal) {i j : Fin n} (h : i < j) :
    Lex c (sortedFrom (fun k k' => decide (c k' < c k)) i) (sortedFrom (fun k k' => decide (c k' < c k)) j) :=
  List.pairwise_iff_get.1 (pairwise_stableSort_lex c (List.finRange n) (List.pairwise_lt_finRange n)) _ _ h

open scoped Classical in
/-- As many positions go before the one at place `p` of the sort as `p`. -/
theorem card_before_sortedFrom (c : Fin n → EReal) (p : Fin n) :
    (Finset.univ.filter fun j => Lex c j (sortedFrom (fun k k' => decide (c k' < c k)) p)).card = p.val := by
  have e : (Finset.univ.filter fun j => Lex c j (sortedFrom (fun k k' => decide (c k' < c k)) p))
      = (Finset.univ.filter fun q : Fin n => q < p).image (sortedFrom fun k k' => decide (c k' < c k)) := by
    ext j
    simp only [Finset.mem_filter, Finset.mem_univ, true_and, Finset.mem_image]
    constructor
    · intro h
      obtain ⟨q, rfl⟩ := sortedFrom_surjective (fun k k' => decide (c k' < c k)) j
      refine ⟨q, ?_, rfl⟩
      rcases lt_trichotomy q p with a | a | a
      · exact a
      · exact absurd (a ▸ h) (Lex.irrefl c _)
      · exact absurd (h.trans (sortedFrom_lex c a)) (Lex.irrefl c _)
    · rintro ⟨q, hq, rfl⟩
      exact sortedFrom_lex c hq
  rw [e, Finset.card_image_of_injective _ (sortedFrom_injective _)]
  rw [Finset.filter_gt_eq_Iio, Fin.card_Iio]

/-- Channel `i` is among the first 230 places of the sort exactly when fewer than 230 channels rank before it. -/
theorem exists_place_iff (c : Fin 384 → EReal) (i : Fin 384) :
    (∃ p : Fin 230, sortedFrom (fun k k' => decide (c k' < c k)) (p.castLE (by decide) : Fin 384) = i) ↔ rank c i < 230 := by
  obtain ⟨q, rfl⟩ := sortedFrom_surjective (fun k k' => decide (c k' < c k)) i
  have hr : rank c (sortedFrom (fun k k' => decide (c k' < c k)) q) = q.val := card_before_sortedFrom c q
  rw [hr]
  constructor
  · rintro ⟨p, hp⟩
    have := sortedFrom_injective _ hp
    rw [← this]
    exact p.isLt
  · intro h
    exact ⟨⟨q.val, h⟩, rfl⟩

end Cert.Model
end
end
-- ==== Proof.V.Mask.lean ====
/-
  The channel mask of the first kernel over the extended reals: both copies of the rank count (by row and by column of the
  comparison table) give the mask of the 230 greatest channels.
-/
module

public import proofs.«01_k».proof.Proof.V.Num
public import proofs.«01_k».proof.Proof.V.Rank
public import proofs.«01_k».proof.Proof.Gen.KernelIdeal.Skeleton
public import proofs.«01_k».proof.Proof.Gen.KernelIdeal

@[expose] public section

set_option maxRecDepth 16384

noncomputable section

namespace Cert.KernelIdeal.Val

open Cert.KernelIdeal Cert.KernelIdeal.Gen Idealize.ShloMosaic Cert.Model

variable (X1 : Vec Ideal S1x1x384 .f32) (X2 : Vec Ideal S1x384x1 .f32) (c : Fin 384 → EReal)
  (h1 : ∀ j, X1 (ix3 0 0 j) = c j) (h2 : ∀ j, X2 (ix3 0 j 0) = c j)

include h1 h2

open scoped Classical in
/-- The comparison table at row `i`, column `j`: whether channel `j` ranks before channel `i`. -/
theorem pay19_apply (i j : Fin 384) : k0_pay19 X1 X2 (ix2 i j) = if Before c j i then 1 else 0 := by
  pointwise [k0_pay19]
  rw [h1, h2, WordCmp.cmpi_slt_ofNat (by omega) (by omega), WordCmp.andi_ofBool, WordCmp.ori_ofBool, bit_value]
  refine if_congr ?_ rfl rfl
  simp only [Bool.or_eq_true, Bool.and_eq_true, decide_eq_true_eq, Before, Fin.lt_def]

/-- The column of the mask, from the counts along the rows. -/
theorem pay20_apply (i : Fin 384) : k0_pay20 X1 X2 (ix2 i 0) = mask c i := by
  classical
  pointwise [k0_pay20]
  rw [bit_value]
  simp only [pay19_apply X1 X2 c h1 h2]
  rw [sum_indicator, w230]
  refine if_congr ?_ rfl rfl
  rw [decide_eq_true_eq, EReal.coe_lt_coe_iff]
  show (((rank c i : ℕ) : ℝ) < 230) ↔ _
  norm_cast

omit h1 h2 in
open scoped Classical in
/-- The channels that `i` ranks before are the others that do not rank before `i`. -/
theorem card_after (i : Fin 384) : (Finset.univ.filter fun j => Before c i j).card + rank c i = 383 := by
  have hd : Disjoint (Finset.univ.filter fun j => Before c i j) (Finset.univ.filter fun j => Before c j i) := by
    rw [Finset.disjoint_filter]
    intro j _ h h'
    exact Lex.irrefl c i (Lex.trans (c := c) h h')
  have hu : (Finset.univ.filter fun j => Before c i j) ∪ (Finset.univ.filter fun j => Before c j i) = Finset.univ.erase i := by
    ext j
    simp only [Finset.mem_union, Finset.mem_filter, Finset.mem_univ, true_and, Finset.mem_erase, and_true]
    constructor
    · rintro (h | h) rfl <;> exact Lex.irrefl c _ h
    · intro h
      exact Lex.total c (Ne.symm h)
  unfold rank
  rw [← Finset.card_union_of_disjoint hd, hu, Finset.card_erase_of_mem (Finset.mem_univ i), Finset.card_univ, Fintype.card_fin]

/-- The row of the mask, from the counts down the columns. -/
theorem pay21_apply (i : Fin 384) : k0_pay21 X1 X2 (ix2 0 i) = mask c i := by
  classical
  pointwise [k0_pay21]
  rw [bit_value]
  simp only [pay19_apply X1 X2 c h1 h2]
  rw [sum_indicator, w383, w230]
  refine if_congr ?_ rfl rfl
  have h := card_after c i
  rw [decide_eq_true_eq, ← EReal.coe_sub, EReal.coe_lt_coe_iff]
  have h' : (((Finset.univ.filter fun j => Before c i j).card : ℕ) : ℝ) + (rank c i : ℝ) = 383 := by exact_mod_cast h
  have e : (383 : ℝ) - (((Finset.univ.filter fun j => Before c i j).card : ℕ) : ℝ) = (rank c i : ℝ) := by linarith
  rw [e]
  norm_cast

end Cert.KernelIdeal.Val
end
end
-- ==== Proof.V.Pool.lean ====
/-
  What the first kernel keeps of one batch, over the extended reals: the four pooled rows, the mask and the features; and what
  the second kernel writes of one batch.
-/
module

public import proofs.«01_k».proof.Proof.V.Mask
public import proofs.«01_k».proof.Proof.KI.Body0
public import Idealize.ShloMosaic.PureOps.IdealRules

@[expose] public section

set_option maxRecDepth 16384

noncomputable section

namespace Cert.KernelIdeal.Val

open Cert.KernelIdeal Cert.KernelIdeal.Gen Cert.KernelIdeal.Hand Idealize.ShloMosaic Cert.Model

/-- The named reciprocal of 230. -/
theorem named_crucial : Named.named (F := Ideal) κ "inv_crucial" (φ := .f32) 0x3B8E7835#32 = ((1 / 230 : ℝ) : EReal) :=
  IdealRules.named_const.ideal_named_scalar _ _ _ _ rfl

/-- The named reciprocal of 154. -/
theorem named_subcrucial : Named.named (F := Ideal) κ "inv_subcrucial" (φ := .f32) 0x3BD4C77B#32 = ((1 / 154 : ℝ) : EReal) :=
  IdealRules.named_const.ideal_named_scalar _ _ _ _ rfl

/-- The mask is a real number, 0 or 1. -/
theorem mask_cases (c : Fin 384 → EReal) (i : Fin 384) : mask c i = 0 ∨ mask c i = 1 := by
  unfold mask; split <;> simp

/-- Of real channels, the sum of all less the sum of the masked ones is the sum of the others. -/
theorem sum_rest (q x : Fin 384 → EReal) (hq : ∀ c, q c = 0 ∨ q c = 1) (f : Fin 384 → ℝ) (hx : ∀ c, x c = f c) :
    (∑ c, 1 * x c) - (∑ c, q c * x c) = ∑ c, (1 - q c) * x c := by
  have h1 : ∀ c, q c * x c = (((if q c = 0 then 0 else f c : ℝ)) : EReal) := fun c => by
    rcases hq c with h | h <;> simp [h, hx]
  have h2 : ∀ c, (1 - q c) * x c = (((if q c = 0 then f c else 0 : ℝ)) : EReal) := fun c => by
    rcases hq c with h | h
    · simp [h, hx]
    · have h11 : (1 : EReal) - 1 = 0 := by rw [← EReal.coe_one, ← EReal.coe_sub]; simp
      rw [h, h11]; simp
  have h0 : ∀ c, 1 * x c = ((f c : ℝ) : EReal) := fun c => by rw [one_mul, hx]
  simp only [h0, h1, h2]
  rw [← coe_sum, ← coe_sum, ← coe_sum, ← EReal.coe_sub, ← Finset.sum_sub_distrib]
  congr 1
  refine Finset.sum_congr rfl fun c _ => ?_
  split <;> simp

section
variable (X1 : Vec Ideal S1x1x384 .f32) (X2 : Vec Ideal S1x384x1 .f32) (X3 : Vec Ideal S1x384x4096 .f32) (c : Fin 384 → EReal)
  (h1 : ∀ j, X1 (ix3 0 0 j) = c j) (h2 : ∀ j, X2 (ix3 0 j 0) = c j)

/-- The block of features as a table of channels by positions. -/
theorem pay23_apply (i : Fin 384) (n : Fin 4096) : k0_pay23 X3 (ix2 i n) = X3 (ix3 0 i n) := by
  pointwise [k0_pay23]

/-- The features that the first kernel hands on are those that it read. -/
theorem featOf_apply (i : Fin 384) (n : Fin 4096) : featOf (F := Ideal) X3 (ix3 0 i n) = (X3 (ix3 0 i n) : EReal) := by
  pointwise [featOf, k0_pay1, k0_pay24, k0_pay23]

include h1 h2

/-- The mask that the first kernel hands on. -/
theorem maskOf_apply (i : Fin 384) : maskOf (F := Ideal) X1 X2 (ix3 0 i 0) = mask c i := by
  pointwise [maskOf, k0_pay22]
  exact pay20_apply X1 X2 c h1 h2 i

/-- The four pooled rows of one batch. -/
theorem poolOf_apply (f : Fin 384 → Fin 4096 → ℝ) (h3 : ∀ i n, X3 (ix3 0 i n) = f i n) (r : Fin 4) (n : Fin 4096) :
    poolOf (F := Ideal) X1 X2 X3 (ix3 0 r n) = pooled (mask c) (fun i n => X3 (ix3 0 i n)) r n := by
  have e20 := pay20_apply X1 X2 c h1 h2
  have e21 := pay21_apply X1 X2 c h1 h2
  have e23 := pay23_apply X3
  unfold poolOf
  generalize k0_pay20 X1 X2 = u at e20 ⊢
  generalize k0_pay21 X1 X2 = v at e21 ⊢
  generalize k0_pay23 X3 = w at e23 ⊢
  fin_cases r
  · show k0_pay2 u v w (ix3 0 0 n) = _
    pointwise [k0_pay2]
    simp only [e20, e21, e23, wbot]
    simp only [pooled, peak]
    refine congrArg (fun g => Finset.fold max ⊥ g Finset.univ) (funext fun i => mul_comm _ _)
  · show k0_pay2 u v w (ix3 0 1 n) = _
    pointwise [k0_pay2]
    simp only [e20, e21, e23, named_crucial]
    rfl
  · show k0_pay2 u v w (ix3 0 2 n) = _
    pointwise [k0_pay2]
    simp only [e20, e21, e23, wbot]
    simp only [pooled, peak]
    refine congrArg (fun g => Finset.fold max ⊥ g Finset.univ) (funext fun i => mul_comm _ _)
  · show k0_pay2 u v w (ix3 0 3 n) = _
    pointwise [k0_pay2]
    simp only [e20, e21, e23, named_subcrucial]
    simp only [pooled, avg]
    rw [← sum_rest (mask c) (fun i => X3 (ix3 0 i n)) (mask_cases c) (fun i => f i n) (fun i => h3 i n)]
    simp only [one_mul]

end

/-- What the second kernel writes of one batch: each feature times the attention that its channel's mask selects. -/
theorem apply_apply (v0 : Vec Ideal S1x384x4096 .bf16) (v3 : Vec Ideal S1x384x1 .f32) (v5 : Vec Ideal S1x2x4096 .f32)
    (i : Fin 384) (n : Fin 4096) : k1_pay1 v0 v3 v5 (ix3 0 i n) =
      v0 (ix3 0 i n) * (v3 (ix3 0 i 0) * v5 (ix3 0 0 n) + (1 - v3 (ix3 0 i 0)) * v5 (ix3 0 1 n)) := by
  pointwise [k1_pay1]

end Cert.KernelIdeal.Val
end
end
-- ==== Proof.V.Blocks.lean ====
/-
  The blocks that the two kernels read, at coordinates of the arrays: every array is cut by batch, so the block of a grid
  point is that batch of the array; the convolution's weights and the two scalars are read whole.
-/
module

public import proofs.«01_k».proof.Proof.V.Pool
public import proofs.«01_k».proof.Proof.KI.Run
public import Idealize.ShloMosaic.Lib.Pipeline.ValueKit
public import Idealize.ShloMosaic.Lib.Claim

@[expose] public section

set_option maxRecDepth 16384

noncomputable section

namespace Cert.KernelIdeal.Val

open Cert.KernelIdeal Cert.KernelIdeal.Gen Cert.KernelIdeal.Hand Idealize.ShloMosaic Cert.Model

/-- The batch that a grid point of the first kernel is at. -/
abbrev at0 (t : Fin cfg0.N) : Fin 16 := Fin.cast N_0 t

/-- The batch that a grid point of the second kernel is at. -/
abbrev at1 (t : Fin cfg1.N) : Fin 16 := Fin.cast N_1 t

/-- The block of window 0 at a grid point of the first call. -/
theorem idx0_0 : ∀ t : Fin cfg0.N, win0_0.index t = ![t.val, 0, 0] := by decide +kernel
/-- The block of window 1 at a grid point of the first call. -/
theorem idx0_1 : ∀ t : Fin cfg0.N, win0_1.index t = ![t.val, 0, 0] := by decide +kernel
/-- The block of window 2 at a grid point of the first call. -/
theorem idx0_2 : ∀ t : Fin cfg0.N, win0_2.index t = ![t.val, 0, 0] := by decide +kernel
/-- The block of window 3 at a grid point of the first call. -/
theorem idx0_3 : ∀ t : Fin cfg0.N, win0_3.index t = ![0, 0] := by decide +kernel
/-- The block of window 4 at a grid point of the first call. -/
theorem idx0_4 : ∀ t : Fin cfg0.N, win0_4.index t = ![0, 0] := by decide +kernel
/-- The block of window 5 at a grid point of the first call. -/
theorem idx0_5 : ∀ t : Fin cfg0.N, win0_5.index t = ![0, 0] := by decide +kernel
/-- The block of window 6 at a grid point of the first call. -/
theorem idx0_6 : ∀ t : Fin cfg0.N, win0_6.index t = ![0, 0, 0] := by decide +kernel
/-- The block of window 7 at a grid point of the first call. -/
theorem idx0_7 : ∀ t : Fin cfg0.N, win0_7.index t = ![t.val, 0, 0] := by decide +kernel
/-- The block of window 8 at a grid point of the first call. -/
theorem idx0_8 : ∀ t : Fin cfg0.N, win0_8.index t = ![t.val, 0, 0] := by decide +kernel
/-- The block of window 0 at a grid point of the second call. -/
theorem idx1_0 : ∀ t : Fin cfg1.N, win1_0.index t = ![t.val, 0, 0] := by decide +kernel
/-- The block of window 1 at a grid point of the second call. -/
theorem idx1_1 : ∀ t : Fin cfg1.N, win1_1.index t = ![t.val, 0, 0] := by decide +kernel
/-- The block of window 2 at a grid point of the second call. -/
theorem idx1_2 : ∀ t : Fin cfg1.N, win1_2.index t = ![t.val, 0, 0] := by decide +kernel
/-- The block of window 3 at a grid point of the second call. -/
theorem idx1_3 : ∀ t : Fin cfg1.N, win1_3.index t = ![t.val, 0, 0] := by decide +kernel

section
variable (V : Dev nD → Valuation τ sig (Elt Ideal)) (c : Dev nD)

/-- Window 0 of the first call reads its array at the grid point's block. -/
theorem blk0_0 (t : Fin cfg0.N) (j : Fin 384) : blk0 V c 0 t (ix3 0 0 j) = V c (Proc.devRef .tc main_v0) (ix3 (at0 t) 0 j) := by
  blk_ext [blk0, idx0_0]; rfl
/-- Window 1 of the first call reads its array at the grid point's block. -/
theorem blk0_1 (t : Fin cfg0.N) (j : Fin 384) : blk0 V c 1 t (ix3 0 j 0) = V c (Proc.devRef .tc main_arg1) (ix3 (at0 t) j 0) := by
  blk_ext [blk0, idx0_1]; rfl
/-- Window 2 of the first call reads its array at the grid point's block. -/
theorem blk0_2 (t : Fin cfg0.N) (j : Fin 384) (n : Fin 4096) : blk0 V c 2 t (ix3 0 j n) = V c (Proc.devRef .tc main_arg0) (ix3 (at0 t) j n) := by
  blk_ext [blk0, idx0_2]; rfl
/-- Window 3 of the first call reads its array at the grid point's block. -/
theorem blk0_3 (t : Fin cfg0.N) (j : Fin 2) (k : Fin 7) : blk0 V c 3 t (ix2 j k) = V c (Proc.devRef .tc main_v1) (ix2 j k) := by
  blk_ext [blk0, idx0_3]
/-- Window 4 of the first call reads its array at the grid point's block. -/
theorem blk0_4 (t : Fin cfg0.N) : blk0 V c 4 t (ix2 0 0) = V c (Proc.devRef .tc main_v2) (ix2 0 0) := by
  blk_ext [blk0, idx0_4]
/-- Window 5 of the first call reads its array at the grid point's block. -/
theorem blk0_5 (t : Fin cfg0.N) : blk0 V c 5 t (ix2 0 0) = V c (Proc.devRef .tc main_v3) (ix2 0 0) := by
  blk_ext [blk0, idx0_5]
/-- Window 0 of the second call reads its array at the grid point's block. -/
theorem blk1_0 (t : Fin cfg1.N) (j : Fin 384) (n : Fin 4096) : blk1 V c 0 t (ix3 0 j n) = V c (Proc.devRef .tc main_v4_2) (ix3 (at1 t) j n) := by
  blk_ext [blk1, idx1_0]; rfl
/-- Window 1 of the second call reads its array at the grid point's block. -/
theorem blk1_1 (t : Fin cfg1.N) (j : Fin 384) : blk1 V c 1 t (ix3 0 j 0) = V c (Proc.devRef .tc main_v4_1) (ix3 (at1 t) j 0) := by
  blk_ext [blk1, idx1_1]; rfl
/-- Window 2 of the second call reads its array at the grid point's block. -/
theorem blk1_2 (t : Fin cfg1.N) (r : Fin 2) (n : Fin 4096) : blk1 V c 2 t (ix3 0 r n) = V c (Proc.devRef .tc main_v4_0) (ix3 (at1 t) r n) := by
  blk_ext [blk1, idx1_2]; rfl
end

section
variable (m : (ℓ : Loc nD τ sig) → Buf (Elt Ideal) ℓ) (c : Dev nD)

/-- The host transposes the channel weights. -/
theorem V1_v0 (b : Fin 16) (j : Fin 384) : V1 m c (Proc.devRef .tc main_v0) (ix3 b 0 j) = m (c, Proc.devRef .tc main_arg1) (ix3 b j 0) := by
  dsimp only [V1]; entry_read; pointwise
/-- The host drops the leading axis of the taps. -/
theorem V1_v1 (j : Fin 2) (k : Fin 7) : V1 m c (Proc.devRef .tc main_v1) (ix2 j k) = m (c, Proc.devRef .tc main_arg2) (ix3 0 j k) := by
  dsimp only [V1]; entry_read; pointwise
/-- The host reshapes the scale. -/
theorem V1_v2 : V1 m c (Proc.devRef .tc main_v2) (ix2 0 0) = m (c, Proc.devRef .tc main_arg3) (ix1 0) := by
  dsimp only [V1]; entry_read; pointwise
/-- The host reshapes the shift. -/
theorem V1_v3 : V1 m c (Proc.devRef .tc main_v3) (ix2 0 0) = m (c, Proc.devRef .tc main_arg4) (ix1 0) := by
  dsimp only [V1]; entry_read; pointwise
/-- The host leaves the features alone. -/
theorem V1_arg0 : V1 m c (Proc.devRef .tc main_arg0) = m (c, Proc.devRef .tc main_arg0) := V1_of m c _ (by decide)
/-- The host leaves the channel weights alone. -/
theorem V1_arg1 : V1 m c (Proc.devRef .tc main_arg1) = m (c, Proc.devRef .tc main_arg1) := V1_of m c _ (by decide)
end

end Cert.KernelIdeal.Val
end
end
-- ==== Proof.V.Attn.lean ====
/-
  The attention rows of the first kernel over the extended reals: the printed payloads are split into the convolution
  of the two pooled channels and the normalisation, and each half is read at an index.
-/
module

public import proofs.«01_k».proof.Proof.V.Model
public import proofs.«01_k».proof.Proof.KI.Body0

@[expose] public section

set_option maxRecDepth 16384

noncomputable section

namespace Cert.KernelIdeal.Val

open Cert.KernelIdeal Cert.KernelIdeal.Gen Cert.KernelIdeal.Hand Idealize.ShloMosaic Cert.Model

/-- The last eight terms of the first half's convolution, added to the first seven. -/
def convA (v71 : FVec Ideal S2x7 .f32) (v81 : FVec Ideal S16x4102 .f32) (v82 : FVec Ideal S16x4102 .f32) (v113 : FVec Ideal S16x4096 .f32) (v117 : FVec Ideal S16x4096 .f32) : FVec Ideal S16x4096 .f32 :=
  have v118 : FVec Ideal S16x4096 .f32 := addf v113 v117
  have v119 : FVec Ideal S1x1 .f32 := extractStridedSlice S1x1 ![1, 3] v71 slices_S2x7_o1_3_S1x1
  have v120 : FVec Ideal S16x4096 .f32 := extractStridedSlice S16x4096 ![0, 3] v82 slices_S16x4102_o0_3_S16x4096
  have v121 : FVec Ideal S16x4096 .f32 := broadcastTo S16x4096 v119 broadcasts_S1x1_S16x4096
  have v122 : FVec Ideal S16x4096 .f32 := mulf v121 v120
  have v123 : FVec Ideal S16x4096 .f32 := addf v118 v122
  have v124 : FVec Ideal S1x1 .f32 := extractStridedSlice S1x1 ![0, 4] v71 slices_S2x7_o0_4_S1x1
  have v125 : FVec Ideal S16x4096 .f32 := extractStridedSlice S16x4096 ![0, 4] v81 slices_S16x4102_o0_4_S16x4096
  have v126 : FVec Ideal S16x4096 .f32 := broadcastTo S16x4096 v124 broadcasts_S1x1_S16x4096
  have v127 : FVec Ideal S16x4096 .f32 := mulf v126 v125
  have v128 : FVec Ideal S16x4096 .f32 := addf v123 v127
  have v129 : FVec Ideal S1x1 .f32 := extractStridedSlice S1x1 ![1, 4] v71 slices_S2x7_o1_4_S1x1
  have v130 : FVec Ideal S16x4096 .f32 := extractStridedSlice S16x4096 ![0, 4] v82 slices_S16x4102_o0_4_S16x4096
  have v131 : FVec Ideal S16x4096 .f32 := broadcastTo S16x4096 v129 broadcasts_S1x1_S16x4096
  have v132 : FVec Ideal S16x4096 .f32 := mulf v131 v130
  have v133 : FVec Ideal S16x4096 .f32 := addf v128 v132
  have v134 : FVec Ideal S1x1 .f32 := extractStridedSlice S1x1 ![0, 5] v71 slices_S2x7_o0_5_S1x1
  have v135 : FVec Ideal S16x4096 .f32 := extractStridedSlice S16x4096 ![0, 5] v81 slices_S16x4102_o0_5_S16x4096
  have v136 : FVec Ideal S16x4096 .f32 := broadcastTo S16x4096 v134 broadcasts_S1x1_S16x4096
  have v137 : FVec Ideal S16x4096 .f32 := mulf v136 v135
  have v138 : FVec Ideal S16x4096 .f32 := addf v133 v137
  have v139 : FVec Ideal S1x1 .f32 := extractStridedSlice S1x1 ![1, 5] v71 slices_S2x7_o1_5_S1x1
  have v140 : FVec Ideal S16x4096 .f32 := extractStridedSlice S16x4096 ![0, 5] v82 slices_S16x4102_o0_5_S16x4096
  have v141 : FVec Ideal S16x4096 .f32 := broadcastTo S16x4096 v139 broadcasts_S1x1_S16x4096
  have v142 : FVec Ideal S16x4096 .f32 := mulf v141 v140
  have v143 : FVec Ideal S16x4096 .f32 := addf v138 v142
  have v144 : FVec Ideal S1x1 .f32 := extractStridedSlice S1x1 ![0, 6] v71 slices_S2x7_o0_6_S1x1
  have v145 : FVec Ideal S16x4096 .f32 := extractStridedSlice S16x4096 ![0, 6] v81 slices_S16x4102_o0_6_S16x4096
  have v146 : FVec Ideal S16x4096 .f32 := broadcastTo S16x4096 v144 broadcasts_S1x1_S16x4096
  have v147 : FVec Ideal S16x4096 .f32 := mulf v146 v145
  have v148 : FVec Ideal S16x4096 .f32 := addf v143 v147
  have v149 : FVec Ideal S1x1 .f32 := extractStridedSlice S1x1 ![1, 6] v71 slices_S2x7_o1_6_S1x1
  have v150 : FVec Ideal S16x4096 .f32 := extractStridedSlice S16x4096 ![0, 6] v82 slices_S16x4102_o0_6_S16x4096
  have v151 : FVec Ideal S16x4096 .f32 := broadcastTo S16x4096 v149 broadcasts_S1x1_S16x4096
  have v152 : FVec Ideal S16x4096 .f32 := mulf v151 v150
  have v153 : FVec Ideal S16x4096 .f32 := addf v148 v152
  v153

/-- The last terms of the second half's convolution, added to the first ones. -/
def convB (v71 : FVec Ideal S2x7 .f32) (v185 : FVec Ideal S16x4102 .f32) (v186 : FVec Ideal S16x4102 .f32) (v222 : FVec Ideal S16x4096 .f32) (v226 : FVec Ideal S16x4096 .f32) : FVec Ideal S16x4096 .f32 :=
  have v227 : FVec Ideal S16x4096 .f32 := addf v222 v226
  have v228 : FVec Ideal S1x1 .f32 := extractStridedSlice S1x1 ![0, 4] v71 slices_S2x7_o0_4_S1x1
  have v229 : FVec Ideal S16x4096 .f32 := extractStridedSlice S16x4096 ![0, 4] v185 slices_S16x4102_o0_4_S16x4096
  have v230 : FVec Ideal S16x4096 .f32 := broadcastTo S16x4096 v228 broadcasts_S1x1_S16x4096
  have v231 : FVec Ideal S16x4096 .f32 := mulf v230 v229
  have v232 : FVec Ideal S16x4096 .f32 := addf v227 v231
  have v233 : FVec Ideal S1x1 .f32 := extractStridedSlice S1x1 ![1, 4] v71 slices_S2x7_o1_4_S1x1
  have v234 : FVec Ideal S16x4096 .f32 := extractStridedSlice S16x4096 ![0, 4] v186 slices_S16x4102_o0_4_S16x4096
  have v235 : FVec Ideal S16x4096 .f32 := broadcastTo S16x4096 v233 broadcasts_S1x1_S16x4096
  have v236 : FVec Ideal S16x4096 .f32 := mulf v235 v234
  have v237 : FVec Ideal S16x4096 .f32 := addf v232 v236
  have v238 : FVec Ideal S1x1 .f32 := extractStridedSlice S1x1 ![0, 5] v71 slices_S2x7_o0_5_S1x1
  have v239 : FVec Ideal S16x4096 .f32 := extractStridedSlice S16x4096 ![0, 5] v185 slices_S16x4102_o0_5_S16x4096
  have v240 : FVec Ideal S16x4096 .f32 := broadcastTo S16x4096 v238 broadcasts_S1x1_S16x4096
  have v241 : FVec Ideal S16x4096 .f32 := mulf v240 v239
  have v242 : FVec Ideal S16x4096 .f32 := addf v237 v241
  have v243 : FVec Ideal S1x1 .f32 := extractStridedSlice S1x1 ![1, 5] v71 slices_S2x7_o1_5_S1x1
  have v244 : FVec Ideal S16x4096 .f32 := extractStridedSlice S16x4096 ![0, 5] v186 slices_S16x4102_o0_5_S16x4096
  have v245 : FVec Ideal S16x4096 .f32 := broadcastTo S16x4096 v243 broadcasts_S1x1_S16x4096
  have v246 : FVec Ideal S16x4096 .f32 := mulf v245 v244
  have v247 : FVec Ideal S16x4096 .f32 := addf v242 v246
  have v248 : FVec Ideal S1x1 .f32 := extractStridedSlice S1x1 ![0, 6] v71 slices_S2x7_o0_6_S1x1
  have v249 : FVec Ideal S16x4096 .f32 := extractStridedSlice S16x4096 ![0, 6] v185 slices_S16x4102_o0_6_S16x4096
  have v250 : FVec Ideal S16x4096 .f32 := broadcastTo S16x4096 v248 broadcasts_S1x1_S16x4096
  have v251 : FVec Ideal S16x4096 .f32 := mulf v250 v249
  have v252 : FVec Ideal S16x4096 .f32 := addf v247 v251
  have v253 : FVec Ideal S1x1 .f32 := extractStridedSlice S1x1 ![1, 6] v71 slices_S2x7_o1_6_S1x1
  have v254 : FVec Ideal S16x4096 .f32 := extractStridedSlice S16x4096 ![0, 6] v186 slices_S16x4102_o0_6_S16x4096
  have v255 : FVec Ideal S16x4096 .f32 := broadcastTo S16x4096 v253 broadcasts_S1x1_S16x4096
  have v256 : FVec Ideal S16x4096 .f32 := mulf v255 v254
  have v257 : FVec Ideal S16x4096 .f32 := addf v252 v256
  v257

/-- The normalisation of a convolved map by its mean and variance over everything, times the scale. -/
def normA (g : FVec Ideal S1x1 .f32) (y : FVec Ideal S16x4096 .f32) : FVec Ideal S16x4096 .f32 :=
  have v154 : FVec Ideal S1x16x4096 .f32 := shapeCast S1x16x4096 y shapeCasts_S16x4096_S1x16x4096
  have v155 : FVec Ideal S1 .f32 := multiReduction .add [1, 2] S1 v154 0x00000000#32 reduces_S1x16x4096_S1 (.inl rfl) rfl
  have v156 : FVec Ideal S1x1x1 .f32 := shapeCast S1x1x1 v155 shapeCasts_S1_S1x1x1
  have v157 : Ideal .f32 := extractAt ![0, 0, 0] v156 inpos_S1x1x1_p0_0_0
  have cst_39 : Ideal .f32 := Scalar.ofBits .f32 0x47800000#32
  have v158 : Ideal .f32 := Scalar.divf v157 cst_39
  have v159 : FVec Ideal S16x4096 .f32 := broadcast S16x4096 v158
  have v160 : FVec Ideal S16x4096 .f32 := subf y v159
  have v161 : FVec Ideal S16x4096 .f32 := mulf v160 v160
  have v162 : FVec Ideal S1x16x4096 .f32 := shapeCast S1x16x4096 v161 shapeCasts_S16x4096_S1x16x4096
  have v163 : FVec Ideal S1 .f32 := multiReduction .add [1, 2] S1 v162 0x00000000#32 reduces_S1x16x4096_S1 (.inl rfl) rfl
  have v164 : FVec Ideal S1x1x1 .f32 := shapeCast S1x1x1 v163 shapeCasts_S1_S1x1x1
  have v165 : Ideal .f32 := extractAt ![0, 0, 0] v164 inpos_S1x1x1_p0_0_0
  have cst_41 : Ideal .f32 := Scalar.ofBits .f32 0x47800000#32
  have v166 : Ideal .f32 := Scalar.divf v165 cst_41
  have cst_42 : Ideal .f32 := Scalar.ofBits .f32 0x3727C5AC#32
  have v167 : Ideal .f32 := Scalar.addf v166 cst_42
  have v168 : Ideal .f32 := Scalar.rsqrt v167
  have v169 : FVec Ideal S16x4096 .f32 := broadcast S16x4096 v168
  have v170 : FVec Ideal S16x4096 .f32 := mulf v160 v169
  have v171 : FVec Ideal S16x4096 .f32 := broadcastTo S16x4096 g broadcasts_S1x1_S16x4096
  have v172 : FVec Ideal S16x4096 .f32 := mulf v170 v171
  v172

/-- The first half's normalised map is the normalisation of its convolution. -/
theorem pay12_eq (v71 : FVec Ideal S2x7 .f32) (g : FVec Ideal S1x1 .f32) (v81 v82 : FVec Ideal S16x4102 .f32) (v113 v117 : FVec Ideal S16x4096 .f32) :
    k0_pay12 v71 g v81 v82 v113 v117 = normA g (convA v71 v81 v82 v113 v117) := rfl

/-- The second half's map before the logistic is the clamp of the normalisation of its convolution plus the shift. -/
theorem pay18_eq (v71 : FVec Ideal S2x7 .f32) (g be : FVec Ideal S1x1 .f32) (v185 v186 : FVec Ideal S16x4102 .f32) (v222 v226 : FVec Ideal S16x4096 .f32) :
    k0_pay18 v71 g be v185 v186 v222 v226
      = maximumf (addf (normA g (convB v71 v185 v186 v222 v226)) (broadcastTo S16x4096 be broadcasts_S1x1_S16x4096)) (broadcast S16x4096 (Scalar.ofBits (F := Ideal) .f32 0x00000000#32)) := rfl

/-- The padding value is zero. -/
theorem pad_zero (b : Fin 16) (k : Fin 3) : k0_pay5 (F := Ideal) (ix2 b k) = 0 := by
  pointwise [k0_pay5]

/-- A row padded by three zeros on either side, however the three cases are told apart. -/
theorem padR_cases (p : Fin 4096 → EReal) (k : Fin 4102) (z1 z2 : EReal) (h1 : z1 = 0) (h2 : z2 = 0) (q : (k.val - 3 < 4096) → EReal)
    (hq : ∀ h, q h = p ⟨k.val - 3, h⟩) :
    (if k.val < 3 then z1 else if h : k.val - 3 < 4096 then q h else z2) = padR p k := by
  unfold padR
  by_cases a : k.val < 3
  · rw [if_pos a, dif_neg (by omega), h1]
  · rw [if_neg a]
    by_cases b : k.val - 3 < 4096
    · rw [dif_pos b, dif_pos (by omega), hq]
    · rw [dif_neg b, dif_neg (by omega), h2]

/-- The first pooled channel, padded. -/
theorem pay8_apply (S : Vec Ideal S16x4x4096 .f32) (b : Fin 16) (k : Fin 4102) : k0_pay8 S (ix2 b k) = padR (fun n => S (ix3 b 0 n)) k := by
  pointwise [k0_pay8, pad_zero]
  exact padR_cases _ k _ _ rfl rfl _ fun _ => rfl

/-- The second pooled channel, padded. -/
theorem pay9_apply (S : Vec Ideal S16x4x4096 .f32) (b : Fin 16) (k : Fin 4102) : k0_pay9 S (ix2 b k) = padR (fun n => S (ix3 b 1 n)) k := by
  pointwise [k0_pay9, pad_zero]
  exact padR_cases _ k _ _ rfl rfl _ fun _ => rfl

/-- The third pooled channel, padded. -/
theorem pay14_apply (S : Vec Ideal S16x4x4096 .f32) (b : Fin 16) (k : Fin 4102) : k0_pay14 S k0_pay5 (ix2 b k) = padR (fun n => S (ix3 b 2 n)) k := by
  pointwise [k0_pay14, pad_zero]
  exact padR_cases _ k _ _ rfl rfl _ fun _ => rfl

/-- The fourth pooled channel, padded. -/
theorem pay15_apply (S : Vec Ideal S16x4x4096 .f32) (b : Fin 16) (k : Fin 4102) : k0_pay15 S k0_pay5 (ix2 b k) = padR (fun n => S (ix3 b 3 n)) k := by
  pointwise [k0_pay15, pad_zero]
  exact padR_cases _ k _ _ rfl rfl _ fun _ => rfl

/-- Fourteen terms added one after the other are the seven taps' pairs. -/
theorem conv_chain (w : Fin 2 → Fin 7 → EReal) (p0 p1 : Fin 4096 → EReal) (n : Fin 4096) :
    0 + w 0 0 * padR p0 ⟨n.val, by omega⟩ + w 1 0 * padR p1 ⟨n.val, by omega⟩ + w 0 1 * padR p0 ⟨1 + n.val, by omega⟩ + w 1 1 * padR p1 ⟨1 + n.val, by omega⟩
      + w 0 2 * padR p0 ⟨2 + n.val, by omega⟩ + w 1 2 * padR p1 ⟨2 + n.val, by omega⟩ + w 0 3 * padR p0 ⟨3 + n.val, by omega⟩ + w 1 3 * padR p1 ⟨3 + n.val, by omega⟩
      + w 0 4 * padR p0 ⟨4 + n.val, by omega⟩ + w 1 4 * padR p1 ⟨4 + n.val, by omega⟩ + w 0 5 * padR p0 ⟨5 + n.val, by omega⟩ + w 1 5 * padR p1 ⟨5 + n.val, by omega⟩
      + w 0 6 * padR p0 ⟨6 + n.val, by omega⟩ + w 1 6 * padR p1 ⟨6 + n.val, by omega⟩ = conv w p0 p1 n := by
  unfold conv
  have e0 : (⟨(0 : Fin 7).val + n.val, by omega⟩ : Fin 4102) = ⟨n.val, by omega⟩ := Fin.ext (Nat.zero_add _)
  rw [Fin.sum_univ_seven, e0]
  simp only [zero_add, add_assoc]
  rfl

/-- The first half's convolution at an index. -/
theorem convA_apply (S : Vec Ideal S16x4x4096 .f32) (W : Vec Ideal S2x7 .f32) (b : Fin 16) (n : Fin 4096) :
    convA (k0_pay4 W) (k0_pay8 S) (k0_pay9 S) (k0_pay10 S W) (k0_pay11 S W) (ix2 b n)
      = conv (fun c k => W (ix2 c k)) (fun n => S (ix3 b 0 n)) (fun n => S (ix3 b 1 n)) n := by
  pointwise [convA, k0_pay4, k0_pay10, k0_pay11]
  simp only [pay8_apply, pay9_apply]
  rw [← conv_chain]
  simp only [zero_add]

/-- The second half's convolution at an index. -/
theorem convB_apply (S : Vec Ideal S16x4x4096 .f32) (W : Vec Ideal S2x7 .f32) (b : Fin 16) (n : Fin 4096) :
    convB (k0_pay4 W) (k0_pay14 S k0_pay5) (k0_pay15 S k0_pay5) (k0_pay16 S (k0_pay4 W) k0_pay5) (k0_pay17 S (k0_pay4 W) k0_pay5) (ix2 b n)
      = conv (fun c k => W (ix2 c k)) (fun n => S (ix3 b 2 n)) (fun n => S (ix3 b 3 n)) n := by
  pointwise [convB, k0_pay4, k0_pay16, k0_pay17]
  simp only [pay14_apply, pay15_apply]
  rw [← conv_chain]
  simp only [zero_add]

/-- The normalised map at an index. -/
theorem normA_apply (g : FVec Ideal S1x1 .f32) (y : FVec Ideal S16x4096 .f32) (b : Fin 16) (n : Fin 4096) :
    normA g y (ix2 b n)
      = (y (ix2 b n) - mean fun b n => y (ix2 b n)) * Ideal.rsqrt (var (fun b n => y (ix2 b n)) + Ideal.ofBits .f32 0x3727C5AC#32) * g (ix2 0 0) := by
  pointwise [normA, mean, var]
  rfl

/-- The first attention row at an index. -/
theorem attnRow0_apply (S : FVec Ideal S16x4x4096 .f32) (W : FVec Ideal S2x7 .f32) (g be : FVec Ideal S1x1 .f32) (b : Fin 16) (n : Fin 4096) :
    attnRow0 S W g be (ix3 b 0 n)
      = act (g (ix2 0 0)) (be (ix2 0 0)) (fun b n => conv (fun c k => W (ix2 c k)) (fun n => S (ix3 b 0 n)) (fun n => S (ix3 b 1 n)) n) b n := by
  unfold attnRow0
  rw [pay12_eq]
  pointwise [k0_pay13, k0_pay6, k0_pay7]
  rw [normA_apply]
  simp only [convA_apply]
  rfl

/-- The second attention row at an index. -/
theorem attnRow1_apply (S : FVec Ideal S16x4x4096 .f32) (W : FVec Ideal S2x7 .f32) (g be : FVec Ideal S1x1 .f32) (b : Fin 16) (n : Fin 4096) :
    attnRow1 S W g be (ix3 b 0 n)
      = act (g (ix2 0 0)) (be (ix2 0 0)) (fun b n => conv (fun c k => W (ix2 c k)) (fun n => S (ix3 b 2 n)) (fun n => S (ix3 b 3 n)) n) b n := by
  unfold attnRow1
  rw [pay18_eq]
  pointwise [k0_pay3, k0_pay6, k0_pay7]
  rw [normA_apply]
  simp only [convB_apply]
  rfl

end Cert.KernelIdeal.Val
end
end
-- ==== Proof.V.Arrays.lean ====
/-
  The arrays that the idealized kernel leaves, as functions of its arguments' contents: the attention, the mask, the features
  and the gated result.
-/
module

public import proofs.«01_k».proof.Proof.V.Blocks
public import proofs.«01_k».proof.Proof.V.Attn

@[expose] public section

set_option maxRecDepth 16384

noncomputable section

namespace Cert.KernelIdeal.Val

open Cert.KernelIdeal Cert.KernelIdeal.Gen Cert.KernelIdeal.Hand Idealize.ShloMosaic Cert.Model

variable (m : (ℓ : Loc nD τ sig) → Buf (Elt Ideal) ℓ) (c : Dev nD)

/-- The features, by batch, channel and position. -/
def argX (b : Fin 16) (i : Fin 384) (n : Fin 4096) : EReal := m (c, Proc.devRef .tc main_arg0) (ix3 b i n)
/-- The channel weights, by batch and channel. -/
def argC (b : Fin 16) (i : Fin 384) : EReal := m (c, Proc.devRef .tc main_arg1) (ix3 b i 0)
/-- The taps of the convolution, by row and tap. -/
def argW (j : Fin 2) (k : Fin 7) : EReal := m (c, Proc.devRef .tc main_arg2) (ix3 0 j k)
/-- The scale of the normalisation. -/
def argG : EReal := m (c, Proc.devRef .tc main_arg3) (ix1 0)
/-- The shift of the normalisation. -/
def argB : EReal := m (c, Proc.devRef .tc main_arg4) (ix1 0)

/-- A grid point reads its batch's channel weights as a row. -/
theorem in_c1 (t : Fin cfg0.N) (j : Fin 384) : blk0 (V1 m) c 0 t (ix3 0 0 j) = argC m c (at0 t) j := by
  rw [blk0_0, V1_v0]; rfl
/-- A grid point reads its batch's channel weights as a column. -/
theorem in_c2 (t : Fin cfg0.N) (j : Fin 384) : blk0 (V1 m) c 1 t (ix3 0 j 0) = argC m c (at0 t) j := by
  rw [blk0_1, V1_arg1]; rfl
/-- A grid point reads its batch's features. -/
theorem in_x (t : Fin cfg0.N) (j : Fin 384) (n : Fin 4096) : blk0 (V1 m) c 2 t (ix3 0 j n) = argX m c (at0 t) j n := by
  rw [blk0_2, V1_arg0]; rfl

/-- The pooled rows of all batches that the first kernel gathers. -/
theorem pools (f : Fin 16 → Fin 384 → Fin 4096 → ℝ) (hf : ∀ b i n, argX m c b i n = f b i n) (b : Fin 16) (r : Fin 4) (n : Fin 4096) :
    poolAll (V1 m) c (ix3 b r n) = pooled (mask (argC m c b)) (argX m c b) r n := by
  have e : (fun i n => blk0 (V1 m) c 2 (pt0 b) (ix3 0 i n)) = argX m c b := by
    funext i n; rw [in_x]; rfl
  have h := poolOf_apply (blk0 (V1 m) c 0 (pt0 b)) (blk0 (V1 m) c 1 (pt0 b)) (blk0 (V1 m) c 2 (pt0 b)) (argC m c b)
    (fun j => in_c1 m c (pt0 b) j) (fun j => in_c2 m c (pt0 b) j) (f b) (fun i n => (in_x m c (pt0 b) i n).trans (hf b i n)) r n
  rw [e] at h
  exact h

/-- The first call leaves the mask of every batch. -/
theorem arr7 : (dat0 (V1 m) c).arrAt 7 cfg0.N = fun y : S16x384x1.Idx => mask (argC m c (y 0)) (y 1) := by
  refine (dat0 (V1 m) c).arrAt_eq_of_covers 7 _ (by decide +kernel) fun t hf y => ?_
  blk_simp
  have hy : y = (ix3 0 (y 1) 0 : S1x384x1.Idx) := by
    idx_bounds; funext a; apply Fin.ext; fin_cases a <;> simp <;> omega
  have e0 : (win0_7.blk t).view.emb y 0 = at0 t := by apply Fin.ext; idx_bounds; blk_simp [idx0_7]; show _ = t.val; omega
  have e1 : (win0_7.blk t).view.emb y 1 = y 1 := by apply Fin.ext; blk_simp [idx0_7]
  rw [e0, e1, hy]
  exact maskOf_apply _ _ _ (in_c1 m c t) (in_c2 m c t) (y 1)

/-- The first call leaves the features as they were. -/
theorem arr8 : (dat0 (V1 m) c).arrAt 8 cfg0.N = fun y : S16x384x4096.Idx => argX m c (y 0) (y 1) (y 2) := by
  refine (dat0 (V1 m) c).arrAt_eq_of_covers 8 _ (by decide +kernel) fun t hf y => ?_
  blk_simp
  have hy : y = (ix3 0 (y 1) (y 2) : S1x384x4096.Idx) := by
    idx_bounds; funext a; apply Fin.ext; fin_cases a <;> simp <;> omega
  have e0 : (win0_8.blk t).view.emb y 0 = at0 t := by apply Fin.ext; idx_bounds; blk_simp [idx0_8]; show _ = t.val; omega
  have e1 : (win0_8.blk t).view.emb y 1 = y 1 := by apply Fin.ext; blk_simp [idx0_8]
  have e2 : (win0_8.blk t).view.emb y 2 = y 2 := by apply Fin.ext; blk_simp [idx0_8]
  rw [e0, e1, e2, hy]
  exact (featOf_apply (blk0 (V1 m) c 2 t) (y 1) (y 2)).trans (in_x m c t (y 1) (y 2))

/-- The first call leaves the attention of every batch, where the features are real. -/
theorem arr6 (f : Fin 16 → Fin 384 → Fin 4096 → ℝ) (hf : ∀ b i n, argX m c b i n = f b i n) :
    (dat0 (V1 m) c).arrAt 6 cfg0.N = fun y : S16x2x4096.Idx =>
      attn (argX m c) (argC m c) (argW m c) (argG m c) (argB m c) (y 1) (y 0) (y 2) := by
  refine (dat0 (V1 m) c).arrAt_eq_of_covers 6 _ (by decide +kernel) fun t _ y => ?_
  blk_simp
  have e0 : (win0_6.blk t).view.emb y 0 = y 0 := by apply Fin.ext; blk_simp [idx0_6]
  have e1 : (win0_6.blk t).view.emb y 1 = y 1 := by apply Fin.ext; blk_simp [idx0_6]
  have e2 : (win0_6.blk t).view.emb y 2 = y 2 := by apply Fin.ext; blk_simp [idx0_6]
  rw [e0, e1, e2]
  show attnOf (poolAll (V1 m) c) (blk0 (V1 m) c 3 t) (blk0 (V1 m) c 4 t) (blk0 (V1 m) c 5 t) y = _
  have hw : (fun (j : Fin 2) (k : Fin 7) => blk0 (V1 m) c 3 t (ix2 j k)) = argW m c := by
    funext j k; rw [blk0_3, V1_v1]; rfl
  have hg : blk0 (V1 m) c 4 t (ix2 0 0) = argG m c := by rw [blk0_4, V1_v2]; rfl
  have hb : blk0 (V1 m) c 5 t (ix2 0 0) = argB m c := by rw [blk0_5, V1_v3]; rfl
  have hp : ∀ b r n, poolAll (V1 m) c (ix3 b r n) = pooled (mask (argC m c b)) (argX m c b) r n := pools m c f hf
  obtain ⟨b, r, n, rfl⟩ : ∃ (b : Fin 16) (r : Fin 2) (n : Fin 4096), y = (ix3 b r n : S16x2x4096.Idx) :=
    ⟨y 0, y 1, y 2, by funext a; fin_cases a <;> rfl⟩
  fin_cases r
  · refine (attnRow0_apply _ _ _ _ b n).trans ?_
    simp only [hw, hg, hb, hp]
    rfl
  · refine (attnRow1_apply _ _ _ _ b n).trans ?_
    simp only [hw, hg, hb, hp]
    rfl

/-- Before the second call the attention is as the first left it. -/
theorem U2_v4_0 : U2 m c (Proc.devRef .tc main_v4_0) = (dat0 (V1 m) c).arrAt 6 cfg0.N :=
  Pipeline.afterRegion_arr (dat0 (V1 m) c) (V1 m c) winFacts0.arr_inj 6
/-- Before the second call the mask is as the first left it. -/
theorem U2_v4_1 : U2 m c (Proc.devRef .tc main_v4_1) = (dat0 (V1 m) c).arrAt 7 cfg0.N :=
  Pipeline.afterRegion_arr (dat0 (V1 m) c) (V1 m c) winFacts0.arr_inj 7
/-- Before the second call the copied features are as the first left them. -/
theorem U2_v4_2 : U2 m c (Proc.devRef .tc main_v4_2) = (dat0 (V1 m) c).arrAt 8 cfg0.N :=
  Pipeline.afterRegion_arr (dat0 (V1 m) c) (V1 m c) winFacts0.arr_inj 8

/-- A grid point of the second call computes the gated features of its batch. -/
theorem out_at (f : Fin 16 → Fin 384 → Fin 4096 → ℝ) (hf : ∀ b i n, argX m c b i n = f b i n) (t : Fin cfg1.N) (i : Fin 384) (n : Fin 4096) :
    k1_pay1 (F := Ideal) (blk1 (U2 m) c 0 t) (blk1 (U2 m) c 1 t) (blk1 (U2 m) c 2 t) (ix3 0 i n) =
      gated (argX m c) (argC m c) (argW m c) (argG m c) (argB m c) (at1 t) i n := by
  refine (apply_apply (blk1 (U2 m) c 0 t) (blk1 (U2 m) c 1 t) (blk1 (U2 m) c 2 t) i n).trans ?_
  rw [blk1_0, blk1_1, blk1_2, blk1_2, U2_v4_0, U2_v4_1, U2_v4_2, arr6 m c f hf, arr7, arr8]
  rfl

/-- The second call leaves the gated features of every batch, where the features are real. -/
theorem arr3 (f : Fin 16 → Fin 384 → Fin 4096 → ℝ) (hf : ∀ b i n, argX m c b i n = f b i n) :
    (dat1 (U2 m) c).arrAt 3 cfg1.N = fun y : S16x384x4096.Idx =>
      gated (argX m c) (argC m c) (argW m c) (argG m c) (argB m c) (y 0) (y 1) (y 2) := by
  refine (dat1 (U2 m) c).arrAt_eq_of_covers 3 _ (by decide +kernel) fun t _ y => ?_
  blk_simp
  have hy : y = (ix3 0 (y 1) (y 2) : S1x384x4096.Idx) := by
    idx_bounds; funext a; apply Fin.ext; fin_cases a <;> simp <;> omega
  have e0 : (win1_3.blk t).view.emb y 0 = at1 t := by apply Fin.ext; idx_bounds; blk_simp [idx1_3]; show _ = t.val; omega
  have e1 : (win1_3.blk t).view.emb y 1 = y 1 := by apply Fin.ext; blk_simp [idx1_3]
  have e2 : (win1_3.blk t).view.emb y 2 = y 2 := by apply Fin.ext; blk_simp [idx1_3]
  rw [e0, e1, e2, hy]
  exact out_at m c f hf t (y 1) (y 2)

end Cert.KernelIdeal.Val
end
end
-- ==== Proof.V.RMask.lean ====
/-
  The reference's mask over the extended reals: its top-k picks the channels of rank below 230, and its scatters write the
  mask, and the mask's complement, of those channels.
-/
module

public import proofs.«01_k».proof.Proof.V.Num
public import proofs.«01_k».proof.Proof.V.Rank
public import proofs.«01_k».proof.Proof.Gen.ReferenceIdeal.Run
public import Idealize.ShloMosaic.Lib.Routing.OpsSet
public import Idealize.ShloMosaic.Lib.Routing.OpsPair

@[expose] public section

set_option maxRecDepth 16384

noncomputable section

namespace Cert.ReferenceIdeal.Val

open Cert.ReferenceIdeal Cert.ReferenceIdeal.Gen Cert.ReferenceIdeal.Value Idealize.ShloMosaic Cert.Model

/-- The order that the top-k compares by. -/
theorem gt_total (a b : Ideal .f32) : (FloatOps.cmpfTotal (F := Ideal) (φ := .f32) .gt a b == 1#1) = decide ((b : EReal) < a) := by
  show (BitVec.ofBool (decide ((b : EReal) < a)) == 1#1) = _
  by_cases h : (b : EReal) < a <;> simp [h]

/-- The position that a top-k of a table's rows writes at row `b`, place `p`: the sort's position at that place. -/
theorem topK_place {α : Type} (gt : α → α → BitVec 1) (v : S16x384.Idx → α) (b : Fin 16) (p : Fin 230) :
    (Host.topK S16x230 1 gt v sliceFits_S16x384_S16x230).2 (ix2 b p)
      = BitVec.ofNat 32 (sortedFrom (fun k k' : Fin 384 => gt (v (ix2 b k)) (v (ix2 b k')) == 1#1) (p.castLE (by decide) : Fin 384)).val := by
  have hal : ∀ (q k : Fin 384), (Shape.Idx.along (ix2 b q : S16x384.Idx) (1 : Fin 2) k) = ix2 b k := fun q k => by
    funext a; fin_cases a <;> rfl
  unfold Host.topK
  dsimp only
  rw [extractStridedSlice_apply _ _ _ (ix2 b p : S16x230.Idx) (ix2 b (p.castLE (by decide)) : S16x384.Idx) (by
    intro a; fin_cases a <;> simp)]
  unfold Host.sort2
  rw [dif_pos (show 1 < S16x384.rank by decide)]
  dsimp only
  rw [dif_pos (show 1 < S16x384.rank by decide)]
  have hs : (fun k k' : Fin 384 => gt (v (Shape.Idx.along (ix2 b (p.castLE (by decide)) : S16x384.Idx) (1 : Fin 2) k))
      (v (Shape.Idx.along (ix2 b (p.castLE (by decide)) : S16x384.Idx) (1 : Fin 2) k')) == 1#1)
      = fun k k' => gt (v (ix2 b k)) (v (ix2 b k')) == 1#1 := by
    funext k k'
    exact congrArg₂ (fun x y => gt (v x) (v y) == 1#1) (hal _ k) (hal _ k')
  have hi : ∀ (j : S16x384.Idx) (q : Fin 384), iotaInDim S16x384 32 (1 : Fin 2) (Shape.Idx.along j (1 : Fin 2) q) = BitVec.ofNat 32 q.val :=
    fun j q => congrArg (fun z : Fin 384 => BitVec.ofNat 32 z.val) (Function.update_self (β := fun a => Fin (S16x384.size a)) (1 : Fin 2) q j)
  refine (hi _ _).trans ?_
  exact congrArg (fun g : Fin 384 → Fin 384 → Bool => BitVec.ofNat 32 (sortedFrom g (p.castLE (by decide) : Fin 384)).val) hs

/-- So of a table of numbers, the places are those of the sort by greater entries first. -/
theorem topK_index (v : FVec Ideal S16x384 .f32) (c : Fin 384 → EReal) (b : Fin 16) (hc : ∀ j, v (ix2 b j) = c j) (p : Fin 230) :
    (Host.topK S16x230 1 (FloatOps.cmpfTotal .gt) v sliceFits_S16x384_S16x230).2 (ix2 b p)
      = BitVec.ofNat 32 (sortedFrom (fun k k' => decide (c k' < c k)) (p.castLE (by decide) : Fin 384)).val := by
  refine (topK_place (FloatOps.cmpfTotal (F := Ideal) (φ := .f32) .gt) v b p).trans ?_
  refine congrArg (fun g : Fin 384 → Fin 384 → Bool => BitVec.ofNat 32 (sortedFrom g (p.castLE (by decide) : Fin 384)).val) ?_
  funext k k'
  rw [gt_total, hc, hc]

/-- The index words of the scatters: at row `b`, place `p`, the pair of the row and the channel at that place. -/
def words (V : Valuation τ sig (Elt Ideal)) : IVec S16x230x2 32 :=
  concatenate S16x230x2 2 [⟨S16x230x1, (broadcastInDim S16x230x1 ![0, 1] bcast_S16x230_S16x230x1_0_1 (broadcastInDim S16x230 ![0, 1] bcast_S16x1_S16x230_0_1 (select (cmpi .slt (res_main_v2 V) (broadcastInDim S16x1 ![] bcast_S_S16x1 (constantI S_ 32 0#32))) (addi (res_main_v2 V) (broadcastInDim S16x1 ![] bcast_S_S16x1 (constantI S_ 32 16#32))) (res_main_v2 V))))⟩, ⟨S16x230x1, (broadcastInDim S16x230x1 ![0, 1] bcast_S16x230_S16x230x1_0_1 (select (cmpi .slt (res_main_indices V) (broadcastInDim S16x230 ![] bcast_S_S16x230 (constantI S_ 32 0#32))) (addi (res_main_indices V) (broadcastInDim S16x230 ![] bcast_S_S16x230 (constantI S_ 32 384#32))) (res_main_indices V)))⟩] concatenates_S16x230x1_S16x230x1_S16x230x2_d2

section
variable (V : Valuation τ sig (Elt Ideal)) (c : Fin 16 → Fin 384 → EReal)
  (hc : ∀ b j, V (Proc.devRef .tc main_arg1) (ix3 b j 0) = c b j)

/-- The scatter's first index of a place is its batch. -/
theorem words_row (b : Fin 16) (p : Fin 230) : words V (ix3 b p 0) = BitVec.ofNat 32 b.val := by
  unfold words
  pointwise [res_main_v2]
  refine Routing.wrap_of_lt _ _ ?_
  rw [BitVec.toNat_ofNat]
  have := b.isLt
  omega

include hc in
/-- The scatter's second index of a place is the channel that the top-k puts there. -/
theorem words_place (b : Fin 16) (p : Fin 230) :
    words V (ix3 b p 1) = BitVec.ofNat 32 (sortedFrom (fun k k' => decide (c b k' < c b k)) (p.castLE (by decide) : Fin 384)).val := by
  have h : res_main_indices V (ix2 b p) = BitVec.ofNat 32 (sortedFrom (fun k k' => decide (c b k' < c b k)) (p.castLE (by decide) : Fin 384)).val := by
    unfold res_main_indices
    refine topK_index _ (c b) b (fun j => ?_) p
    rw [← hc]
    pointwise [res_main_v0]
  unfold words
  generalize res_main_indices V = u at h ⊢
  pointwise []
  rw [h]
  refine Routing.wrap_of_lt _ _ ?_
  generalize sortedFrom (fun k k' => decide (c b k' < c b k)) (p.castLE (by decide) : Fin 384) = q
  rw [BitVec.toNat_ofNat]
  have := q.isLt
  omega

include hc in
/-- The update at row `a`, place `p` lands at row `b`, channel `i` when the rows agree and the sort has the channel at that place. -/
theorem lands (a b : Fin 16) (p : Fin 230) (i : Fin 384) :
    scatter_S16x384_S16x230x2_S16x230_n_01_01_2.resultIdx? (ix2 a p) (words V) = some (ix2 b i)
      ↔ a = b ∧ sortedFrom (fun k k' => decide (c a k' < c a k)) (p.castLE (by decide) : Fin 384) = i := by
  refine (Routing.scatter_lands2 scatter_S16x384_S16x230x2_S16x230_n_01_01_2 rfl rfl rfl (words V) a p b i).trans ?_
  have e1 : words V (ValueIdx.ix3 a p 0) = BitVec.ofNat 32 a.val := words_row V a p
  have e2 : words V (ValueIdx.ix3 a p 1) = BitVec.ofNat 32 (sortedFrom (fun k k' => decide (c a k' < c a k)) (p.castLE (by decide) : Fin 384)).val :=
    words_place V c hc a p
  rw [e1, e2]
  generalize sortedFrom (fun k k' => decide (c a k' < c a k)) (p.castLE (by decide) : Fin 384) = q
  have h1 : (BitVec.ofNat 32 a.val).toInt = (a.val : ℤ) := by
    rw [BitVec.toInt_eq_toNat_cond, BitVec.toNat_ofNat]; have := a.isLt; split <;> omega
  have h2 : (BitVec.ofNat 32 q.val).toInt = (q.val : ℤ) := by
    rw [BitVec.toInt_eq_toNat_cond, BitVec.toNat_ofNat]; have := q.isLt; split <;> omega
  rw [h1, h2, Fin.ext_iff, Fin.ext_iff]
  omega

include hc in
/-- What a scatter of one value `v` over a table of one value `u` writes: `v` at the channels of rank below 230, `u` elsewhere. -/
theorem scatter_apply (u v : EReal) (x0 : S16x384.Idx → EReal) (upd : S16x230.Idx → EReal) (h0 : ∀ i, x0 i = u) (hu : ∀ k, upd k = v)
    (b : Fin 16) (i : Fin 384) :
    Host.scatter scatter_S16x384_S16x230x2_S16x230_n_01_01_2 (fun _ b => b) x0 (words V) upd (ix2 b i)
      = if rank (c b) i < 230 then v else u := by
  split
  · rename_i h
    obtain ⟨p, hp⟩ := (exists_place_iff (c b) i).2 h
    exact Routing.scatter_set_hit _ _ _ _ _ v (fun k _ => hu k) (ix2 b p) ((lands V c hc b b p i).2 ⟨rfl, hp⟩)
  · rename_i h
    rw [Routing.scatter_set_miss _ _ _ _ _ (fun k hk => h ?_), h0]
    obtain ⟨a, p, rfl⟩ : ∃ (a : Fin 16) (p : Fin 230), k = (ix2 a p : S16x230.Idx) := ⟨k 0, k 1, by funext q; fin_cases q <;> rfl⟩
    obtain ⟨rfl, hp⟩ := (lands V c hc a b p i).1 hk
    exact (exists_place_iff (c a) i).1 ⟨p, hp⟩

variable (x : Fin 16 → Fin 384 → Fin 4096 → EReal) (hx : ∀ b i n, V (Proc.devRef .tc main_arg0) (ix3 b i n) = x b i n)

include hc hx

/-- The reference's masked features. -/
theorem v39_apply (b : Fin 16) (i : Fin 384) (n : Fin 4096) : res_main_v39 V (ix3 b i n) = mask (c b) i * x b i n := by
  have h := scatter_apply V c hc 0 1 (broadcastInDim S16x384 ![] bcast_S_S16x384 (constant (F := Ideal) S_ .f32 0x00000000#32))
    (broadcastInDim S16x230 ![] bcast_S_S16x230 (constant (F := Ideal) S_ .f32 0x3F800000#32))
    (fun i => by obtain ⟨a, p, rfl⟩ : ∃ (a : Fin 16) (p : Fin 384), i = (ix2 a p : S16x384.Idx) := ⟨i 0, i 1, by funext q; fin_cases q <;> rfl⟩
                 pointwise []) (fun k => by
                 obtain ⟨a, p, rfl⟩ : ∃ (a : Fin 16) (p : Fin 230), k = (ix2 a p : S16x230.Idx) := ⟨k 0, k 1, by funext q; fin_cases q <;> rfl⟩
                 pointwise []) b i
  unfold words at h
  unfold res_main_v39
  generalize Host.scatter scatter_S16x384_S16x230x2_S16x230_n_01_01_2 (α := Ideal .f32) _ _ _ _ = s at h ⊢
  pointwise []
  rw [h, hx]
  unfold mask
  rfl

/-- The reference's features of the channels outside the mask. -/
theorem v42_apply (b : Fin 16) (i : Fin 384) (n : Fin 4096) : res_main_v42 V (ix3 b i n) = (1 - mask (c b) i) * x b i n := by
  have h := scatter_apply V c hc 1 0 (broadcastInDim S16x384 ![] bcast_S_S16x384 (constant (F := Ideal) S_ .f32 0x3F800000#32))
    (broadcastInDim S16x230 ![] bcast_S_S16x230 (constant (F := Ideal) S_ .f32 0x00000000#32))
    (fun i => by obtain ⟨a, p, rfl⟩ : ∃ (a : Fin 16) (p : Fin 384), i = (ix2 a p : S16x384.Idx) := ⟨i 0, i 1, by funext q; fin_cases q <;> rfl⟩
                 pointwise []) (fun k => by
                 obtain ⟨a, p, rfl⟩ : ∃ (a : Fin 16) (p : Fin 230), k = (ix2 a p : S16x230.Idx) := ⟨k 0, k 1, by funext q; fin_cases q <;> rfl⟩
                 pointwise []) b i
  unfold words at h
  unfold res_main_v42
  generalize Host.scatter scatter_S16x384_S16x230x2_S16x230_n_01_01_2 (α := Ideal .f32) _ _ _ _ = s at h ⊢
  pointwise []
  rw [h, hx]
  have h11 : (1 : EReal) - 1 = 0 := by rw [← EReal.coe_one, ← EReal.coe_sub]; simp
  unfold mask
  split <;> simp [h11]

end

end Cert.ReferenceIdeal.Val
end
end
-- ==== Proof.V.RPool.lean ====
/-
  The reference's pooled rows, padded, and their convolution, over the extended reals.
-/
module

public import proofs.«01_k».proof.Proof.V.RMask

@[expose] public section

set_option maxRecDepth 16384

noncomputable section

namespace Cert.ReferenceIdeal.Val

open Cert.ReferenceIdeal Cert.ReferenceIdeal.Gen Cert.ReferenceIdeal.Value Idealize.ShloMosaic Cert.Model

variable (V : Valuation τ sig (Elt Ideal))

/-- The greatest entries over the channels of a table, from minus infinity. -/
theorem fold_channels (h : S16x384x4096.ReducesTo [1] S16x4096) (y : S16x384x4096.Idx → EReal) (b : Fin 16) (n : Fin 4096) :
    Finset.fold max ⊥ y (Finset.univ.filter fun i => h.drop i = (ix2 b n : S16x4096.Idx)) = Finset.univ.fold max ⊥ fun c : Fin 384 => y (ix3 b c n) := by
  refine (h.fold_fiber_r3_a1 (ix2 b n) max ⊥ y).trans ?_
  rfl

section
variable (q : Fin 16 → Fin 384 → EReal) (x : Fin 16 → Fin 384 → Fin 4096 → EReal)

/-- The padded row of the greatest masked features. -/
theorem v65_0 (h : ∀ b i n, res_main_v39 V (ix3 b i n) = q b i * x b i n) (b : Fin 16) (k : Fin 4102) :
    res_main_v65 V (ix3 b 0 k) = padR (fun n => peak (q b) fun c => x b c n) k := by
  unfold res_main_v65
  generalize res_main_v39 V = y at h ⊢
  pointwise []
  rw [int_zero, wbot]
  unfold padR peak
  by_cases hk : 3 ≤ k.val ∧ k.val < 4099
  · rw [dif_pos hk]
    refine (dif_pos ⟨hk.1, by omega⟩).trans ((fold_channels _ y b _).trans ?_)
    simp only [h]
  · rw [dif_neg hk]
    exact dif_neg (by omega)

/-- The padded row of the mean masked features. -/
theorem v65_1 (h : ∀ b i n, res_main_v39 V (ix3 b i n) = q b i * x b i n) (b : Fin 16) (k : Fin 4102) :
    res_main_v65 V (ix3 b 1 k) = padR (fun n => avg (1 / 230) (q b) fun c => x b c n) k := by
  unfold res_main_v65
  generalize res_main_v39 V = y at h ⊢
  pointwise []
  rw [int_zero, w384, w230]
  unfold padR avg
  by_cases hk : 3 ≤ k.val ∧ k.val < 4099
  · rw [dif_pos hk]
    refine (dif_pos ⟨hk.1, by omega⟩).trans ((count_cancel _ _ (by norm_num)).trans ?_)
    simp only [h]
  · rw [dif_neg hk]
    exact dif_neg (by omega)

/-- The padded row of the greatest features outside the mask. -/
theorem v153_0 (h : ∀ b i n, res_main_v42 V (ix3 b i n) = q b i * x b i n) (b : Fin 16) (k : Fin 4102) :
    res_main_v153 V (ix3 b 0 k) = padR (fun n => peak (q b) fun c => x b c n) k := by
  unfold res_main_v153
  generalize res_main_v42 V = y at h ⊢
  pointwise []
  rw [int_zero, wbot]
  unfold padR peak
  by_cases hk : 3 ≤ k.val ∧ k.val < 4099
  · rw [dif_pos hk]
    refine (dif_pos ⟨hk.1, by omega⟩).trans ((fold_channels _ y b _).trans ?_)
    simp only [h]
  · rw [dif_neg hk]
    exact dif_neg (by omega)

/-- The padded row of the mean features outside the mask. -/
theorem v153_1 (h : ∀ b i n, res_main_v42 V (ix3 b i n) = q b i * x b i n) (b : Fin 16) (k : Fin 4102) :
    res_main_v153 V (ix3 b 1 k) = padR (fun n => avg (1 / 154) (q b) fun c => x b c n) k := by
  unfold res_main_v153
  generalize res_main_v42 V = y at h ⊢
  pointwise []
  rw [int_zero, w384, w154]
  unfold padR avg
  by_cases hk : 3 ≤ k.val ∧ k.val < 4099
  · rw [dif_pos hk]
    refine (dif_pos ⟨hk.1, by omega⟩).trans ((count_cancel _ _ (by norm_num)).trans ?_)
    simp only [h]
  · rw [dif_neg hk]
    exact dif_neg (by omega)
end

section
variable (p0 p1 : Fin 16 → Fin 4096 → EReal)

/-- The convolution of the two padded rows of the masked channels. -/
theorem v129_apply (h0 : ∀ b k, res_main_v65 V (ix3 b 0 k) = padR (p0 b) k) (h1 : ∀ b k, res_main_v65 V (ix3 b 1 k) = padR (p1 b) k)
    (b : Fin 16) (n : Fin 4096) :
    res_main_v129 V (ix3 b 0 n) = conv (fun c k => V (Proc.devRef .tc main_arg2) (ix3 0 c k)) (p0 b) (p1 b) n := by
  unfold res_main_v129
  generalize res_main_v65 V = y at h0 h1 ⊢
  pointwise []
  unfold conv
  simp only [Fin.sum_univ_two, Fin.sum_univ_seven, h0, h1]
  simp

/-- The convolution of the two padded rows of the other channels. -/
theorem v217_apply (h0 : ∀ b k, res_main_v153 V (ix3 b 0 k) = padR (p0 b) k) (h1 : ∀ b k, res_main_v153 V (ix3 b 1 k) = padR (p1 b) k)
    (b : Fin 16) (n : Fin 4096) :
    res_main_v217 V (ix3 b 0 n) = conv (fun c k => V (Proc.devRef .tc main_arg2) (ix3 0 c k)) (p0 b) (p1 b) n := by
  unfold res_main_v217
  generalize res_main_v153 V = y at h0 h1 ⊢
  pointwise []
  unfold conv
  simp only [Fin.sum_univ_two, Fin.sum_univ_seven, h0, h1]
  simp
end

section
variable (y : Fin 16 → Fin 4096 → EReal)

/-- The activation of the first convolution. -/
theorem v152_apply (h : ∀ b n, res_main_v129 V (ix3 b 0 n) = y b n) (b : Fin 16) (n : Fin 4096) :
    res_main_v152 V (ix3 b 0 n) = act (V (Proc.devRef .tc main_arg3) (ix1 0)) (V (Proc.devRef .tc main_arg4) (ix1 0)) y b n := by
  rw [act_eq_div]
  unfold res_main_v152 res_main_call1_v5 res_main_call1_v8
  generalize res_main_v129 V = u at h ⊢
  pointwise []
  rw [int_zero, sub_zero, if_pos (by rw [w65536]; exact EReal.coe_pos.2 (by norm_num))]
  simp only [h, Fin.sum_univ_one]
  rfl

/-- The activation of the second convolution. -/
theorem v240_apply (h : ∀ b n, res_main_v217 V (ix3 b 0 n) = y b n) (b : Fin 16) (n : Fin 4096) :
    res_main_v240 V (ix3 b 0 n) = act (V (Proc.devRef .tc main_arg3) (ix1 0)) (V (Proc.devRef .tc main_arg4) (ix1 0)) y b n := by
  rw [act_eq_div]
  unfold res_main_v240 res_main_call3_v5 res_main_call3_v8
  generalize res_main_v217 V = u at h ⊢
  pointwise []
  rw [int_zero, sub_zero, if_pos (by rw [w65536]; exact EReal.coe_pos.2 (by norm_num))]
  simp only [h, Fin.sum_univ_one]
  rfl
end

end Cert.ReferenceIdeal.Val
end
end
-- ==== Proof.V.Result.lean ====
/-
  The reference's two results over the extended reals: the attention of the masked and of the other channels one beside the
  other, and the gated features.
-/
module

public import proofs.«01_k».proof.Proof.V.RPool

@[expose] public section

set_option maxRecDepth 16384

noncomputable section

namespace Cert.ReferenceIdeal.Val

open Cert.ReferenceIdeal Cert.ReferenceIdeal.Gen Cert.ReferenceIdeal.Value Idealize.ShloMosaic Cert.Model

variable (V : Valuation τ sig (Elt Ideal))
variable (c : Fin 16 → Fin 384 → EReal) (hc : ∀ b j, V (Proc.devRef .tc main_arg1) (ix3 b j 0) = c b j)
variable (x : Fin 16 → Fin 384 → Fin 4096 → EReal) (hx : ∀ b i n, V (Proc.devRef .tc main_arg0) (ix3 b i n) = x b i n)
variable (w : Fin 2 → Fin 7 → EReal) (hw : ∀ j k, V (Proc.devRef .tc main_arg2) (ix3 0 j k) = w j k)
variable (g : EReal) (hg : V (Proc.devRef .tc main_arg3) (ix1 0) = g)
variable (be : EReal) (hb : V (Proc.devRef .tc main_arg4) (ix1 0) = be)

include hc hx hw hg hb

/-- The attention of the masked channels. -/
theorem attention_0 (b : Fin 16) (n : Fin 4096) : res_main_v152 V (ix3 b 0 n) = attn x c w g be 0 b n := by
  obtain rfl : (fun j k => V (Proc.devRef .tc main_arg2) (ix3 0 j k)) = w := funext fun j => funext fun k => hw j k
  obtain rfl := hg
  obtain rfl := hb
  have h0 := v65_0 V (fun b => mask (c b)) x (v39_apply V c hc x hx)
  have h1 := v65_1 V (fun b => mask (c b)) x (v39_apply V c hc x hx)
  exact v152_apply V _ (v129_apply V _ _ h0 h1) b n

/-- The attention of the other channels. -/
theorem attention_1 (b : Fin 16) (n : Fin 4096) : res_main_v240 V (ix3 b 0 n) = attn x c w g be 1 b n := by
  obtain rfl : (fun j k => V (Proc.devRef .tc main_arg2) (ix3 0 j k)) = w := funext fun j => funext fun k => hw j k
  obtain rfl := hg
  obtain rfl := hb
  have h0 := v153_0 V (fun b i => 1 - mask (c b) i) x (v42_apply V c hc x hx)
  have h1 := v153_1 V (fun b i => 1 - mask (c b) i) x (v42_apply V c hc x hx)
  exact v240_apply V _ (v217_apply V _ _ h0 h1) b n

/-- The first result, entry by entry. -/
theorem v245_at (b : Fin 16) (r : Fin 2) (n : Fin 4096) :
    concatenate S16x2x4096 1 [⟨S16x1x4096, (res_main_v152 V)⟩, ⟨S16x1x4096, (res_main_v240 V)⟩] concatenates_S16x1x4096_S16x1x4096_S16x2x4096_d1 (ix3 b r n)
      = attn x c w g be r b n := by
  have h0 := attention_0 V c hc x hx w hw g hg be hb b n
  have h1 := attention_1 V c hc x hx w hw g hg be hb b n
  generalize res_main_v152 V = y0 at h0 ⊢
  generalize res_main_v240 V = y1 at h1 ⊢
  match r with
  | 0 => pointwise []; exact h0
  | 1 => pointwise []; exact h1

/-- The second result, entry by entry. -/
theorem v246_at (b : Fin 16) (i : Fin 384) (n : Fin 4096) :
    addf (mulf (res_main_v39 V) (broadcastInDim S16x384x4096 ![0, 1, 2] bcast_S16x1x4096_S16x384x4096_0_1_2 (res_main_v152 V))) (mulf (res_main_v42 V) (broadcastInDim S16x384x4096 ![0, 1, 2] bcast_S16x1x4096_S16x384x4096_0_1_2 (res_main_v240 V))) (ix3 b i n)
      = gated x c w g be b i n := by
  have h0 := attention_0 V c hc x hx w hw g hg be hb b n
  have h1 := attention_1 V c hc x hx w hw g hg be hb b n
  have e0 := v39_apply V c hc x hx b i n
  have e1 := v42_apply V c hc x hx b i n
  generalize res_main_v152 V = y0 at h0 ⊢
  generalize res_main_v240 V = y1 at h1 ⊢
  generalize res_main_v39 V = z0 at e0 ⊢
  generalize res_main_v42 V = z1 at e1 ⊢
  pointwise []
  rw [h0, h1, e0, e1]
  unfold gated
  rcases (show mask (c b) i = 0 ∨ mask (c b) i = 1 by unfold mask; split <;> simp) with h | h <;> rw [h] <;>
    simp [show (1 : EReal) - 1 = 0 by rw [← EReal.coe_one, ← EReal.coe_sub, sub_self, EReal.coe_zero]]

/-- The first result. -/
theorem v245_eq :
    concatenate S16x2x4096 1 [⟨S16x1x4096, (res_main_v152 V)⟩, ⟨S16x1x4096, (res_main_v240 V)⟩] concatenates_S16x1x4096_S16x1x4096_S16x2x4096_d1
      = fun y : S16x2x4096.Idx => attn x c w g be (y 1) (y 0) (y 2) := by
  funext y
  have hy : y = (ix3 (y 0) (y 1) (y 2) : S16x2x4096.Idx) := by funext a; fin_cases a <;> rfl
  rw [hy]
  exact v245_at V c hc x hx w hw g hg be hb (y 0) (y 1) (y 2)

/-- The second result. -/
theorem v246_eq :
    addf (mulf (res_main_v39 V) (broadcastInDim S16x384x4096 ![0, 1, 2] bcast_S16x1x4096_S16x384x4096_0_1_2 (res_main_v152 V))) (mulf (res_main_v42 V) (broadcastInDim S16x384x4096 ![0, 1, 2] bcast_S16x1x4096_S16x384x4096_0_1_2 (res_main_v240 V)))
      = fun y : S16x384x4096.Idx => gated x c w g be (y 0) (y 1) (y 2) := by
  funext y
  have hy : y = (ix3 (y 0) (y 1) (y 2) : S16x384x4096.Idx) := by funext a; fin_cases a <;> rfl
  rw [hy]
  exact v246_at V c hc x hx w hw g hg be hb (y 0) (y 1) (y 2)

end Cert.ReferenceIdeal.Val

end
-- ==== Proof.V.Finite.lean ====
/-
  The precondition read over the extended reals: every feature is a real number.
-/
module

public import proofs.«01_k».proof.Pre_finite_x
public import Idealize.ShloMosaic.Lib.Pointwise

@[expose] public section

noncomputable section

namespace Cert.Finite

open Cert.Pre_finite_x Idealize.ShloMosaic

/-- The side condition that the precondition states. -/
instance facts : Cert.Pre_finite_x.Facts := ⟨by decide⟩

/-- A number whose absolute value is below the infinite word is real. -/
theorem real_of_abs (z : EReal) (h : BitVec.ofBool (decide (max z (-z) < Ideal.ofBits .f32 0x7F800000#32)) = 1#1) : ∃ r : ℝ, z = r := by
  have w : Ideal.ofBits .f32 0x7F800000#32 = ⊤ := by simp [Ideal.ofBits, Ideal.ieee]
  rw [w] at h
  induction z with
  | bot => simp at h
  | top => simp at h
  | coe r => exact ⟨r, rfl⟩

/-- Where the precondition holds, every feature is a real number. -/
theorem real (x : FVec Ideal S16x384x4096 .f32) (a1 : FVec Ideal S16x384x1 .f32) (a2 : FVec Ideal S1x2x7 .f32) (a3 a4 : FVec Ideal S1 .f32)
    (h : Cert.Pre_finite_x.fn (F := Ideal) x a1 a2 a3 a4 = fun _ => 1#1) :
    ∃ f : Fin 16 → Fin 384 → Fin 4096 → ℝ, ∀ b i n, x (ix3 b i n) = (f b i n : EReal) := by
  have e : ∀ b i n, ∃ r : ℝ, x (ix3 b i n) = (r : EReal) := fun b i n => by
    have hp := congrFun h (ix3 b i n)
    unfold Cert.Pre_finite_x.fn at hp
    dsimp only at hp
    revert hp
    pointwise []
    exact fun hp => real_of_abs _ hp
  choose f hf using e
  exact ⟨f, hf⟩

end Cert.Finite

end
-- ==== Proof.lean ====
/-
  The proof of the certificate's claims. Each program's run gives its frame; the two named constants give the preserving
  claim; and the two idealized programs' results are the same functions of the arguments, the attention and the gated
  features of `Cert.Model`.
-/
module

public import proofs.«01_k».proof.Defs
public import proofs.«01_k».proof.Proof.K.Run
public import proofs.«01_k».proof.Proof.KI.Run
public import proofs.«01_k».proof.Proof.V.Arrays
public import proofs.«01_k».proof.Proof.V.Result
public import proofs.«01_k».proof.Proof.V.Finite
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The kernel ends with its arguments unchanged and every counter at zero. -/
theorem frame_kernel : Cert.quiescent_Kernel := fun m g _ =>
  (θ_run Cert.Kernel.defs _ _).mono
    (fun _ h => ⟨fun c => ⟨(h.1 c).1, (h.1 c).2.1, (h.1 c).2.2.1, (h.1 c).2.2.2.1, (h.1 c).2.2.2.2.1⟩, h.2⟩)
    (Cert.Kernel.Hand.run (F := Bits) m g)

/-- The idealized kernel ends with its arguments unchanged and every counter at zero. -/
theorem frame_kernel_ideal : Cert.quiescent_KernelIdeal := fun m g _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Cert.KernelIdeal.Hand.run (F := Ideal) m g)

/-- The same where the precondition holds. -/
theorem frame_kernel_ideal_pre : Cert.quiescent_KernelIdeal_pre_finite_x := fun m g _ => frame_kernel_ideal m g trivial

/-- The idealized reference ends with its arguments unchanged; it declares no semaphore. -/
theorem frame_reference : Cert.quiescent_ReferenceIdeal := fun m g _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m g)

/-- The same where the precondition holds. -/
theorem frame_reference_pre : Cert.quiescent_ReferenceIdeal_pre_finite_x := fun m g _ => frame_reference m g trivial

/-- The two constants named are the reciprocals of the two counts of channels. -/
theorem preserves : Cert.preserves_Kernel_KernelIdeal :=
  ⟨IdealRules.named_const.statement _ _ _ _ _ rfl, IdealRules.named_const.statement _ _ _ _ _ rfl⟩

open Cert.KernelIdeal.Val in
/-- The two idealized programs end with equal results. -/
theorem algebraic : Cert.algebraic_KernelIdeal_ReferenceIdeal_pre_finite_x := by
  intro m g m' g' hpre hagree
  have hf : ∀ c : Dev Cert.KernelIdeal.nD, ∃ f : Fin 16 → Fin 384 → Fin 4096 → ℝ, ∀ b i n, argX m c b i n = (f b i n : EReal) :=
    fun c => Cert.Finite.real _ _ _ _ _ (hpre c)
  refine ⟨fun c => fun y : Cert.KernelIdeal.S16x2x4096.Idx =>
      Cert.Model.attn (argX m c) (argC m c) (argW m c) (argG m c) (argB m c) (y 1) (y 0) (y 2),
    fun c => fun y : Cert.KernelIdeal.S16x384x4096.Idx =>
      Cert.Model.gated (argX m c) (argC m c) (argW m c) (argG m c) (argB m c) (y 0) (y 1) (y 2), ?_, ?_⟩
  · refine (θ_run Cert.KernelIdeal.defs _ _).mono (fun r h c => ?_) (Cert.KernelIdeal.Hand.run (F := Ideal) m g)
    obtain ⟨f, hx⟩ := hf c
    obtain ⟨h0, h1, h2, h3, h4, h5, h6⟩ := h.1 c
    exact ⟨h5.trans (arr6 m c f hx), h6.trans (arr3 m c f hx), h0, h1, h2, h3, h4⟩
  · refine (θ_run Cert.ReferenceIdeal.defs _ _).mono (fun r h c => ?_) (Cert.ReferenceIdeal.Value.run (F := Ideal) m' g')
    obtain ⟨a0, a1, a2, a3, a4⟩ := hagree c
    obtain ⟨h5, h6, hargs⟩ := h c
    refine ⟨h5.trans ?_, h6.trans ?_, hargs⟩
    · exact Cert.ReferenceIdeal.Val.v245_eq (StableHlo.launchContents m' c) (argC m c) (fun b j => congrFun a1 (ix3 b j 0)) (argX m c)
        (fun b i n => congrFun a0 (ix3 b i n)) (argW m c) (fun j k => congrFun a2 (ix3 0 j k)) (argG m c) (congrFun a3 (ix1 0))
        (argB m c) (congrFun a4 (ix1 0))
    · exact Cert.ReferenceIdeal.Val.v246_eq (StableHlo.launchContents m' c) (argC m c) (fun b j => congrFun a1 (ix3 b j 0)) (argX m c)
        (fun b i n => congrFun a0 (ix3 b i n)) (argW m c) (fun j k => congrFun a2 (ix3 0 j k)) (argG m c) (congrFun a3 (ix1 0))
        (argB m c) (congrFun a4 (ix1 0))

/-- Every claim of the certificate. -/
theorem claim : Cert.Claim := ⟨Cert.Kernel.Gen.facts, Cert.KernelIdeal.Gen.facts, Cert.ReferenceIdeal.Gen.facts, Cert.Finite.facts,
  frame_kernel, frame_kernel_ideal, frame_kernel_ideal_pre, frame_reference, frame_reference_pre, preserves, algebraic⟩

end Cert.Proof

end
